-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "per_div" .f32 0x39C30C31#32 ((1 / 2688 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x5120 : Shape := ⟨2, ![1536, 5120]⟩
abbrev S1 : Shape := ⟨1, ![1]⟩
abbrev S1536x3456 : Shape := ⟨2, ![1536, 3456]⟩
abbrev S16 : Shape := ⟨1, ![16]⟩
abbrev S3456x5120 : Shape := ⟨2, ![3456, 5120]⟩
abbrev S96x3456 : Shape := ⟨2, ![96, 3456]⟩
abbrev S256x3456 : Shape := ⟨2, ![256, 3456]⟩
abbrev S1536x384 : Shape := ⟨2, ![1536, 384]⟩
abbrev S1536x256 : Shape := ⟨2, ![1536, 256]⟩
abbrev S3456x256 : Shape := ⟨2, ![3456, 256]⟩
abbrev S96x384 : Shape := ⟨2, ![96, 384]⟩
abbrev S3456x1536 : Shape := ⟨2, ![3456, 1536]⟩
abbrev S256x1536 : Shape := ⟨2, ![256, 1536]⟩
abbrev S256x256 : Shape := ⟨2, ![256, 256]⟩
abbrev S2 : Shape := ⟨1, ![2]⟩
abbrev S16x16x256 : Shape := ⟨3, ![16, 16, 256]⟩
abbrev S16x256 : Shape := ⟨2, ![16, 256]⟩
abbrev S256x128 : Shape := ⟨2, ![256, 128]⟩
abbrev S16x16x128 : Shape := ⟨3, ![16, 16, 128]⟩
abbrev S16x128 : Shape := ⟨2, ![16, 128]⟩
abbrev S1x96x3456 : Shape := ⟨3, ![1, 96, 3456]⟩
abbrev S1x1x1 : Shape := ⟨3, ![1, 1, 1]⟩
abbrev S256x384 : Shape := ⟨2, ![256, 384]⟩
abbrev S384x256 : Shape := ⟨2, ![384, 256]⟩
abbrev S128x256 : Shape := ⟨2, ![128, 256]⟩
abbrev S432x1536 : Shape := ⟨2, ![432, 1536]⟩
abbrev S432x256 : Shape := ⟨2, ![432, 256]⟩

abbrev nBuf : Space → Nat
  | .hbm => 8
  | .vmem => 15
  | .smem => 4
  | _ => 0

abbrev bufTy : (tb : Table) → Fin (tcTables nBuf tb) → BufTy
  | .hbm, ⟨0, _⟩ => ⟨S1536x5120, .bf16⟩
  | .hbm, ⟨1, _⟩ => ⟨S1, .f32⟩
  | .hbm, ⟨2, _⟩ => ⟨S1536x3456, .bf16⟩
  | .hbm, ⟨3, _⟩ => ⟨S1536x3456, .bf16⟩
  | .hbm, ⟨4, _⟩ => ⟨S16, .f32⟩
  | .hbm, ⟨5, _⟩ => ⟨S3456x5120, .f32⟩
  | .hbm, ⟨6, _⟩ => ⟨S96x3456, .fp8e4m3⟩
  | .hbm, ⟨7, _⟩ => ⟨S1, .f32⟩
  | .local _ .vmem, ⟨0, _⟩ => ⟨S256x3456, .bf16⟩
  | .local _ .vmem, ⟨1, _⟩ => ⟨S256x3456, .bf16⟩
  | .local _ .vmem, ⟨2, _⟩ => ⟨S1536x384, .bf16⟩
  | .local _ .vmem, ⟨3, _⟩ => ⟨S1536x384, .bf16⟩
  | .local _ .vmem, ⟨4, _⟩ => ⟨S1536x256, .bf16⟩
  | .local _ .vmem, ⟨5, _⟩ => ⟨S1536x256, .bf16⟩
  | .local _ .vmem, ⟨6, _⟩ => ⟨S3456x256, .f32⟩
  | .local _ .vmem, ⟨7, _⟩ => ⟨S3456x256, .f32⟩
  | .local _ .vmem, ⟨8, _⟩ => ⟨S96x384, .fp8e4m3⟩
  | .local _ .vmem, ⟨9, _⟩ => ⟨S96x384, .fp8e4m3⟩
  | .local _ .vmem, ⟨10, _⟩ => ⟨S96x3456, .f32⟩
  | .local _ .vmem, ⟨11, _⟩ => ⟨S3456x1536, .bf16⟩
  | .local _ .vmem, ⟨12, _⟩ => ⟨S256x1536, .bf16⟩
  | .local _ .vmem, ⟨13, _⟩ => ⟨S256x1536, .bf16⟩
  | .local _ .vmem, ⟨14, _⟩ => ⟨S256x256, .bf16⟩
  | .local _ .smem, ⟨0, _⟩ => ⟨S16, .f32⟩
  | .local _ .smem, ⟨1, _⟩ => ⟨S1, .f32⟩
  | .local _ .smem, ⟨2, _⟩ => ⟨S1, .f32⟩
  | .local _ .smem, ⟨3, _⟩ => ⟨S2, .f32⟩
  | _, _ => ⟨S1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 0, rfl⟩
abbrev cc0_stg1_0 : Ref sig .tc := ⟨.smem, 1, rfl⟩
abbrev cc0_stg7_0 : Ref sig .tc := ⟨.smem, 2, rfl⟩
abbrev cc0_scratch5 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![36], ![false]⟩

def k0_cond2 (i : grid0.Coords) : BitVec 1 :=
  let arg0 : BitVec 32 := BitVec.ofNat 32 (i 0).val
  let c6_i32 : BitVec 32 := 6#32
  let v3 : BitVec 1 := Scalar.cmpi .slt arg0 c6_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c16_i32_31 : BitVec 32 := 16#32
  let v61 : BitVec 32 := Scalar.muli arg0 c16_i32_31
  v61
def k0_off1 (i : grid0.Coords) : Fin 2 → Nat :=
  let arg0 : BitVec 32 := BitVec.ofNat 32 (i 0).val
  let c16_i32_31 : BitVec 32 := 16#32
  let v61 : BitVec 32 := Scalar.muli arg0 c16_i32_31
  let v62 : BitVec 32 := v61
  let v63 : Index := Scalar.indexCast v62
  let c0_32 : Index := 0#32
  ![v63.toNat, 0]
def k0_mult2 (i : grid0.Coords) : BitVec 32 :=
  let arg0 : BitVec 32 := BitVec.ofNat 32 (i 0).val
  let c16_i32_38 : BitVec 32 := 16#32
  let v73 : BitVec 32 := Scalar.muli arg0 c16_i32_38
  v73
def k0_off2 (i : grid0.Coords) : Fin 2 → Nat :=
  let arg0 : BitVec 32 := BitVec.ofNat 32 (i 0).val
  let c16_i32_38 : BitVec 32 := 16#32
  let v73 : BitVec 32 := Scalar.muli arg0 c16_i32_38
  let v74 : BitVec 32 := v73
  let v75 : Index := Scalar.indexCast v74
  let c256_39 : Index := 256#32
  ![v75.toNat, 256]
def k0_mult3 (i : grid0.Coords) : BitVec 32 :=
  let arg0 : BitVec 32 := BitVec.ofNat 32 (i 0).val
  let c16_i32_45 : BitVec 32 := 16#32
  let v85 : BitVec 32 := Scalar.muli arg0 c16_i32_45
  v85
def k0_off3 (i : grid0.Coords) : Fin 2 → Nat :=
  let arg0 : BitVec 32 := BitVec.ofNat 32 (i 0).val
  let c16_i32_45 : BitVec 32 := 16#32
  let v85 : BitVec 32 := Scalar.muli arg0 c16_i32_45
  let v86 : BitVec 32 := v85
  let v87 : Index := Scalar.indexCast v86
  let c512_46 : Index := 512#32
  ![v87.toNat, 512]
def k0_mult4 (i : grid0.Coords) : BitVec 32 :=
  let arg0 : BitVec 32 := BitVec.ofNat 32 (i 0).val
  let c16_i32_52 : BitVec 32 := 16#32
  let v97 : BitVec 32 := Scalar.muli arg0 c16_i32_52
  v97
def k0_off4 (i : grid0.Coords) : Fin 2 → Nat :=
  let arg0 : BitVec 32 := BitVec.ofNat 32 (i 0).val
  let c16_i32_52 : BitVec 32 := 16#32
  let v97 : BitVec 32 := Scalar.muli arg0 c16_i32_52
  let v98 : BitVec 32 := v97
  let v99 : Index := Scalar.indexCast v98
  let c768_53 : Index := 768#32
  ![v99.toNat, 768]
def k0_mult5 (i : grid0.Coords) : BitVec 32 :=
  let arg0 : BitVec 32 := BitVec.ofNat 32 (i 0).val
  let c16_i32_59 : BitVec 32 := 16#32
  let v109 : BitVec 32 := Scalar.muli arg0 c16_i32_59
  v109
def k0_off5 (i : grid0.Coords) : Fin 2 → Nat :=
  let arg0 : BitVec 32 := BitVec.ofNat 32 (i 0).val
  let c16_i32_59 : BitVec 32 := 16#32
  let v109 : BitVec 32 := Scalar.muli arg0 c16_i32_59
  let v110 : BitVec 32 := v109
  let v111 : Index := Scalar.indexCast v110
  let c1024_60 : Index := 1024#32
  ![v111.toNat, 1024]
def k0_mult6 (i : grid0.Coords) : BitVec 32 :=
  let arg0 : BitVec 32 := BitVec.ofNat 32 (i 0).val
  let c16_i32_66 : BitVec 32 := 16#32
  let v121 : BitVec 32 := Scalar.muli arg0 c16_i32_66
  v121
def k0_off6 (i : grid0.Coords) : Fin 2 → Nat :=
  let arg0 : BitVec 32 := BitVec.ofNat 32 (i 0).val
  let c16_i32_66 : BitVec 32 := 16#32
  let v121 : BitVec 32 := Scalar.muli arg0 c16_i32_66
  let v122 : BitVec 32 := v121
  let v123 : Index := Scalar.indexCast v122
  let c1280_67 : Index := 1280#32
  ![v123.toNat, 1280]
def k0_mult7 (i : grid0.Coords) : BitVec 32 :=
  let arg0 : BitVec 32 := BitVec.ofNat 32 (i 0).val
  let c16_i32_73 : BitVec 32 := 16#32
  let v133 : BitVec 32 := Scalar.muli arg0 c16_i32_73
  v133
def k0_off7 (i : grid0.Coords) : Fin 2 → Nat :=
  let arg0 : BitVec 32 := BitVec.ofNat 32 (i 0).val
  let c16_i32_73 : BitVec 32 := 16#32
  let v133 : BitVec 32 := Scalar.muli arg0 c16_i32_73
  let v134 : BitVec 32 := v133
  let v135 : Index := Scalar.indexCast v134
  let c1536_74 : Index := 1536#32
  ![v135.toNat, 1536]
def k0_mult8 (i : grid0.Coords) : BitVec 32 :=
  let arg0 : BitVec 32 := BitVec.ofNat 32 (i 0).val
  let c16_i32_80 : BitVec 32 := 16#32
  let v145 : BitVec 32 := Scalar.muli arg0 c16_i32_80
  v145
def k0_off8 (i : grid0.Coords) : Fin 2 → Nat :=
  let arg0 : BitVec 32 := BitVec.ofNat 32 (i 0).val
  let c16_i32_80 : BitVec 32 := 16#32
  let v145 : BitVec 32 := Scalar.muli arg0 c16_i32_80
  let v146 : BitVec 32 := v145
  let v147 : Index := Scalar.indexCast v146
  let c1792_81 : Index := 1792#32
  ![v147.toNat, 1792]
def k0_mult9 (i : grid0.Coords) : BitVec 32 :=
  let arg0 : BitVec 32 := BitVec.ofNat 32 (i 0).val
  let c16_i32_87 : BitVec 32 := 16#32
  let v157 : BitVec 32 := Scalar.muli arg0 c16_i32_87
  v157
def k0_off9 (i : grid0.Coords) : Fin 2 → Nat :=
  let arg0 : BitVec 32 := BitVec.ofNat 32 (i 0).val
  let c16_i32_87 : BitVec 32 := 16#32
  let v157 : BitVec 32 := Scalar.muli arg0 c16_i32_87
  let v158 : BitVec 32 := v157
  let v159 : Index := Scalar.indexCast v158
  let c2048_88 : Index := 2048#32
  ![v159.toNat, 2048]
def k0_mult10 (i : grid0.Coords) : BitVec 32 :=
  let arg0 : BitVec 32 := BitVec.ofNat 32 (i 0).val
  let c16_i32_94 : BitVec 32 := 16#32
  let v169 : BitVec 32 := Scalar.muli arg0 c16_i32_94
  v169
def k0_off10 (i : grid0.Coords) : Fin 2 → Nat :=
  let arg0 : BitVec 32 := BitVec.ofNat 32 (i 0).val
  let c16_i32_94 : BitVec 32 := 16#32
  let v169 : BitVec 32 := Scalar.muli arg0 c16_i32_94
  let v170 : BitVec 32 := v169
  let v171 : Index := Scalar.indexCast v170
  let c2304_95 : Index := 2304#32
  ![v171.toNat, 2304]
def k0_mult11 (i : grid0.Coords) : BitVec 32 :=
  let arg0 : BitVec 32 := BitVec.ofNat 32 (i 0).val
  let c16_i32_101 : BitVec 32 := 16#32
  let v181 : BitVec 32 := Scalar.muli arg0 c16_i32_101
  v181
def k0_off11 (i : grid0.Coords) : Fin 2 → Nat :=
  let arg0 : BitVec 32 := BitVec.ofNat 32 (i 0).val
  let c16_i32_101 : BitVec 32 := 16#32
  let v181 : BitVec 32 := Scalar.muli arg0 c16_i32_101
  let v182 : BitVec 32 := v181
  let v183 : Index := Scalar.indexCast v182
  let c2560_102 : Index := 2560#32
  ![v183.toNat, 2560]
def k0_mult12 (i : grid0.Coords) : BitVec 32 :=
  let arg0 : BitVec 32 := BitVec.ofNat 32 (i 0).val
  let c16_i32_108 : BitVec 32 := 16#32
  let v193 : BitVec 32 := Scalar.muli arg0 c16_i32_108
  v193
def k0_off12 (i : grid0.Coords) : Fin 2 → Nat :=
  let arg0 : BitVec 32 := BitVec.ofNat 32 (i 0).val
  let c16_i32_108 : BitVec 32 := 16#32
  let v193 : BitVec 32 := Scalar.muli arg0 c16_i32_108
  let v194 : BitVec 32 := v193
  let v195 : Index := Scalar.indexCast v194
  let c2816_109 : Index := 2816#32
  ![v195.toNat, 2816]
def k0_mult13 (i : grid0.Coords) : BitVec 32 :=
  let arg0 : BitVec 32 := BitVec.ofNat 32 (i 0).val
  let c16_i32_115 : BitVec 32 := 16#32
  let v205 : BitVec 32 := Scalar.muli arg0 c16_i32_115
  v205
def k0_off13 (i : grid0.Coords) : Fin 2 → Nat :=
  let arg0 : BitVec 32 := BitVec.ofNat 32 (i 0).val
  let c16_i32_115 : BitVec 32 := 16#32
  let v205 : BitVec 32 := Scalar.muli arg0 c16_i32_115
  let v206 : BitVec 32 := v205
  let v207 : Index := Scalar.indexCast v206
  let c3072_116 : Index := 3072#32
  ![v207.toNat, 3072]
def k0_mult14 (i : grid0.Coords) : BitVec 32 :=
  let arg0 : BitVec 32 := BitVec.ofNat 32 (i 0).val
  let c16_i32_122 : BitVec 32 := 16#32
  let v217 : BitVec 32 := Scalar.muli arg0 c16_i32_122
  v217
def k0_off14 (i : grid0.Coords) : Fin 2 → Nat :=
  let arg0 : BitVec 32 := BitVec.ofNat 32 (i 0).val
  let c16_i32_122 : BitVec 32 := 16#32
  let v217 : BitVec 32 := Scalar.muli arg0 c16_i32_122
  let v218 : BitVec 32 := v217
  let v219 : Index := Scalar.indexCast v218
  let c3328_123 : Index := 3328#32
  ![v219.toNat, 3328]
def k0_cond4 (i : grid0.Coords) : BitVec 1 :=
  let arg0 : BitVec 32 := BitVec.ofNat 32 (i 0).val
  let c6_i32_4 : BitVec 32 := 6#32
  let v9 : BitVec 1 := Scalar.cmpi .sge arg0 c6_i32_4
  let c15_i32 : BitVec 32 := 15#32
  let v10 : BitVec 1 := Scalar.cmpi .slt arg0 c15_i32
  let v11 : BitVec 1 := Scalar.andi v9 v10
  let v12 : BitVec 32 := Scalar.extui v11
  let c0_i32_5 : BitVec 32 := 0#32
  let v13 : BitVec 1 := Scalar.cmpi .ne v12 c0_i32_5
  v13

def k0_mult15 (i : grid0.Coords) : BitVec 32 :=
  let arg0 : BitVec 32 := BitVec.ofNat 32 (i 0).val
  let c6_i32_27 : BitVec 32 := 6#32
  let v55 : BitVec 32 := Scalar.subi arg0 c6_i32_27
  let c384_i32 : BitVec 32 := 384#32
  let v56 : BitVec 32 := Scalar.muli v55 c384_i32
  v56
def k0_off15 (i : grid0.Coords) : Fin 2 → Nat :=
  let c0 : Index := 0#32
  let arg0 : BitVec 32 := BitVec.ofNat 32 (i 0).val
  let c6_i32_27 : BitVec 32 := 6#32
  let v55 : BitVec 32 := Scalar.subi arg0 c6_i32_27
  let c384_i32 : BitVec 32 := 384#32
  let v56 : BitVec 32 := Scalar.muli v55 c384_i32
  let v57 : BitVec 32 := v56
  let v58 : Index := Scalar.indexCast v57
  ![0, v58.toNat]
def k0_off16 (i : grid0.Coords) : Fin 2 → Nat :=
  let arg0 : BitVec 32 := BitVec.ofNat 32 (i 0).val
  let c6_i32_27 : BitVec 32 := 6#32
  let v55 : BitVec 32 := Scalar.subi arg0 c6_i32_27
  let c384_i32 : BitVec 32 := 384#32
  let v56 : BitVec 32 := Scalar.muli v55 c384_i32
  let v57 : BitVec 32 := v56
  let v70 : Index := Scalar.indexCast v57
  let c0_33 : Index := 0#32
  ![v70.toNat, 0]
def k0_off17 (i : grid0.Coords) : Fin 2 → Nat :=
  let arg0 : BitVec 32 := BitVec.ofNat 32 (i 0).val
  let c6_i32_27 : BitVec 32 := 6#32
  let v55 : BitVec 32 := Scalar.subi arg0 c6_i32_27
  let c384_i32 : BitVec 32 := 384#32
  let v56 : BitVec 32 := Scalar.muli v55 c384_i32
  let v57 : BitVec 32 := v56
  let v76 : Index := Scalar.indexCast v57
  let c256_35 : Index := 256#32
  ![v76.toNat, 256]
def k0_off18 (i : grid0.Coords) : Fin 2 → Nat :=
  let arg0 : BitVec 32 := BitVec.ofNat 32 (i 0).val
  let c6_i32_27 : BitVec 32 := 6#32
  let v55 : BitVec 32 := Scalar.subi arg0 c6_i32_27
  let c384_i32 : BitVec 32 := 384#32
  let v56 : BitVec 32 := Scalar.muli v55 c384_i32
  let v57 : BitVec 32 := v56
  let v82 : Index := Scalar.indexCast v57
  let c512_37 : Index := 512#32
  ![v82.toNat, 512]
def k0_off19 (i : grid0.Coords) : Fin 2 → Nat :=
  let arg0 : BitVec 32 := BitVec.ofNat 32 (i 0).val
  let c6_i32_27 : BitVec 32 := 6#32
  let v55 : BitVec 32 := Scalar.subi arg0 c6_i32_27
  let c384_i32 : BitVec 32 := 384#32
  let v56 : BitVec 32 := Scalar.muli v55 c384_i32
  let v57 : BitVec 32 := v56
  let v88 : Index := Scalar.indexCast v57
  let c768_39 : Index := 768#32
  ![v88.toNat, 768]
def k0_off20 (i : grid0.Coords) : Fin 2 → Nat :=
  let arg0 : BitVec 32 := BitVec.ofNat 32 (i 0).val
  let c6_i32_27 : BitVec 32 := 6#32
  let v55 : BitVec 32 := Scalar.subi arg0 c6_i32_27
  let c384_i32 : BitVec 32 := 384#32
  let v56 : BitVec 32 := Scalar.muli v55 c384_i32
  let v57 : BitVec 32 := v56
  let v94 : Index := Scalar.indexCast v57
  let c1024_41 : Index := 1024#32
  ![v94.toNat, 1024]
def k0_off21 (i : grid0.Coords) : Fin 2 → Nat :=
  let arg0 : BitVec 32 := BitVec.ofNat 32 (i 0).val
  let c6_i32_27 : BitVec 32 := 6#32
  let v55 : BitVec 32 := Scalar.subi arg0 c6_i32_27
  let c384_i32 : BitVec 32 := 384#32
  let v56 : BitVec 32 := Scalar.muli v55 c384_i32
  let v57 : BitVec 32 := v56
  let v100 : Index := Scalar.indexCast v57
  let c1280_43 : Index := 1280#32
  ![v100.toNat, 1280]
def k0_cond6 (i : grid0.Coords) : BitVec 1 :=
  let arg0 : BitVec 32 := BitVec.ofNat 32 (i 0).val
  let c16_i32 : BitVec 32 := 16#32
  let v14 : BitVec 32 := Scalar.subi arg0 c16_i32
  let c0_i32_8 : BitVec 32 := 0#32
  let v18 : BitVec 1 := Scalar.cmpi .sge v14 c0_i32_8
  let c19_i32 : BitVec 32 := 19#32
  let v19 : BitVec 1 := Scalar.cmpi .slt v14 c19_i32
  let v20 : BitVec 1 := Scalar.andi v18 v19
  let c2_i32 : BitVec 32 := 2#32
  let c0_i32_9 : BitVec 32 := 0#32
  let v21 : BitVec 1 := Scalar.cmpi .eq c2_i32 c0_i32_9
  let c1_i32 : BitVec 32 := 1#32
  let v22 : BitVec 32 := Scalar.select v21 c1_i32 c2_i32
  let v23 : BitVec 32 := Scalar.remsi v14 v22
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let c0_i32_10 : BitVec 32 := 0#32
  let v24 : BitVec 1 := Scalar.cmpi .ne v23 c0_i32_10
  let v28 : BitVec 1 := Scalar.andi v27 v24
  let v29 : BitVec 32 := Scalar.addi v23 v22
  let v30 : BitVec 32 := Scalar.select v28 v29 v23
  let c0_i32_13 : BitVec 32 := 0#32
  let v31 : BitVec 1 := Scalar.cmpi .eq v30 c0_i32_13
  let v32 : BitVec 1 := Scalar.andi v20 v31
  let v33 : BitVec 32 := Scalar.extui v32
  let c0_i32_14 : BitVec 32 := 0#32
  let v34 : BitVec 1 := Scalar.cmpi .ne v33 c0_i32_14
  v34

def k0_cond7 (i : grid0.Coords) : BitVec 1 :=
  let arg0 : BitVec 32 := BitVec.ofNat 32 (i 0).val
  let c16_i32 : BitVec 32 := 16#32
  let v14 : BitVec 32 := Scalar.subi arg0 c16_i32
  let c0_i32_15 : BitVec 32 := 0#32
  let v35 : BitVec 1 := Scalar.cmpi .sge v14 c0_i32_15
  let c19_i32_16 : BitVec 32 := 19#32
  let v36 : BitVec 1 := Scalar.cmpi .slt v14 c19_i32_16
  let v37 : BitVec 1 := Scalar.andi v35 v36
  let c2_i32_17 : BitVec 32 := 2#32
  let c0_i32_18 : BitVec 32 := 0#32
  let v38 : BitVec 1 := Scalar.cmpi .eq c2_i32_17 c0_i32_18
  let c1_i32_19 : BitVec 32 := 1#32
  let v39 : BitVec 32 := Scalar.select v38 c1_i32_19 c2_i32_17
  let v40 : BitVec 32 := Scalar.remsi v14 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let c1_i32_23 : BitVec 32 := 1#32
  let v48 : BitVec 1 := Scalar.cmpi .eq v47 c1_i32_23
  let v49 : BitVec 1 := Scalar.andi v37 v48
  let v50 : BitVec 32 := Scalar.extui v49
  let c0_i32_24 : BitVec 32 := 0#32
  let v51 : BitVec 1 := Scalar.cmpi .ne v50 c0_i32_24
  v51

def k0_cond8 (i : grid0.Coords) : BitVec 1 :=
  let arg0 : BitVec 32 := BitVec.ofNat 32 (i 0).val
  let c16_i32 : BitVec 32 := 16#32
  let v14 : BitVec 32 := Scalar.subi arg0 c16_i32
  let c19_i32_25 : BitVec 32 := 19#32
  let v52 : BitVec 1 := Scalar.cmpi .eq v14 c19_i32_25
  let v53 : BitVec 32 := Scalar.extui v52
  let c0_i32_26 : BitVec 32 := 0#32
  let v54 : BitVec 1 := Scalar.cmpi .ne v53 c0_i32_26
  v54

def k0_cond3 (i : grid0.Coords) : BitVec 1 :=
  let arg0 : BitVec 32 := BitVec.ofNat 32 (i 0).val
  let c6_i32_2 : BitVec 32 := 6#32
  let v6 : BitVec 1 := Scalar.cmpi .eq arg0 c6_i32_2
  let v7 : BitVec 32 := Scalar.extui v6
  let c0_i32_3 : BitVec 32 := 0#32
  let v8 : BitVec 1 := Scalar.cmpi .ne v7 c0_i32_3
  v8

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c8_i32 : BitVec 32 := 8#32
  let v1 : BitVec 32 := Scalar.maxsi c0_i32 v0
  let v2 : BitVec 32 := Scalar.minsi c8_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let c19_i32 : BitVec 32 := 19#32
  let v1 : BitVec 32 := Scalar.maxsi c0_i32 v0
  let v2 : BitVec 32 := Scalar.minsi c19_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c19_i32 : BitVec 32 := 19#32
  let v1 : BitVec 32 := Scalar.maxsi c0_i32 v0
  let v2 : BitVec 32 := Scalar.minsi c19_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c8_i32 : BitVec 32 := 8#32
  let v1 : BitVec 32 := Scalar.maxsi c0_i32 v0
  let v2 : BitVec 32 := Scalar.minsi c8_i32 v1
  let c0_i32_0 : BitVec 32 := 0#32
  let c0_i32_1 : BitVec 32 := 0#32
  ![c0_i32_0.toNat, v2.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3456 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3456x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x384 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "per_div" => some ((1 / 2688 : ℝ) : EReal)
  | _ => none
-- ==== ReferenceIdeal.lean ====
abbrev S1536x5120 : Shape := ⟨2, ![1536, 5120]⟩
abbrev S1 : Shape := ⟨1, ![1]⟩
abbrev S1536x3456 : Shape := ⟨2, ![1536, 3456]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S96x16x3456 : Shape := ⟨3, ![96, 16, 3456]⟩
abbrev S96x3456x16 : Shape := ⟨3, ![96, 3456, 16]⟩
abbrev S96x3456 : Shape := ⟨2, ![96, 3456]⟩
abbrev S1x1 : Shape := ⟨2, ![1, 1]⟩
abbrev S3456x5120 : Shape := ⟨2, ![3456, 5120]⟩

abbrev nBuf : Space → Nat
  | .hbm => 61
  | .vmem => 0
  | .smem => 0
  | _ => 0

abbrev bufTy : (tb : Table) → Fin (tcTables nBuf tb) → BufTy
  | .hbm, ⟨0, _⟩ => ⟨S1536x5120, .bf16⟩
  | .hbm, ⟨1, _⟩ => ⟨S1, .f32⟩
  | .hbm, ⟨2, _⟩ => ⟨S1536x3456, .bf16⟩
  | .hbm, ⟨3, _⟩ => ⟨S1536x3456, .bf16⟩
  | .hbm, ⟨4, _⟩ => ⟨S16, .f32⟩
  | .hbm, ⟨5, _⟩ => ⟨S16, .i32⟩
  | .hbm, ⟨6, _⟩ => ⟨S16x1, .i32⟩
  | .hbm, ⟨7, _⟩ => ⟨S1x16, .i32⟩
  | .hbm, ⟨8, _⟩ => ⟨S16x16, .i32⟩
  | .hbm, ⟨9, _⟩ => ⟨S16x16, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S_, .i32⟩
  | .hbm, ⟨19, _⟩ => ⟨S16x16, .i32⟩
  | .hbm, ⟨20, _⟩ => ⟨S16x16, .i32⟩
  | .hbm, ⟨21, _⟩ => ⟨S16x16, .f32⟩
  | .hbm, ⟨22, _⟩ => ⟨S1x16, .f32⟩
  | .hbm, ⟨23, _⟩ => ⟨S16x16, .f32⟩
  | .hbm, ⟨24, _⟩ => ⟨S16x16, .f32⟩
  | .hbm, ⟨25, _⟩ => ⟨S_, .f32⟩
  | .hbm, ⟨26, _⟩ => ⟨S16x16, .f32⟩
  | .hbm, ⟨27, _⟩ => ⟨S16x16, .f32⟩
  | .hbm, ⟨28, _⟩ => ⟨S1536x3456, .f32⟩
  | .hbm, ⟨29, _⟩ => ⟨S96x16x3456, .f32⟩
  | .hbm, ⟨30, _⟩ => ⟨S96x3456x16, .f32⟩
  | .hbm, ⟨31, _⟩ => ⟨S96x16x3456, .f32⟩
  | .hbm, ⟨32, _⟩ => ⟨S96x16x3456, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S96x16x3456, .f32⟩
  | .hbm, ⟨44, _⟩ => ⟨S_, .f32⟩
  | .hbm, ⟨45, _⟩ => ⟨S96x3456, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S1x1, .f32⟩
  | .hbm, ⟨50, _⟩ => ⟨S96x3456, .f32⟩
  | .hbm, ⟨51, _⟩ => ⟨S96x3456, .f32⟩
  | .hbm, ⟨52, _⟩ => ⟨S_, .f32⟩
  | .hbm, ⟨53, _⟩ => ⟨S96x3456, .f32⟩
  | .hbm, ⟨54, _⟩ => ⟨S96x3456, .f32⟩
  | .hbm, ⟨55, _⟩ => ⟨S96x3456, .fp8e4m3⟩
  | .hbm, ⟨56, _⟩ => ⟨S3456x5120, .f32⟩
  | .hbm, ⟨57, _⟩ => ⟨S1, .f32⟩
  | .hbm, ⟨58, _⟩ => ⟨S1x1, .f32⟩
  | .hbm, ⟨59, _⟩ => ⟨S3456x5120, .f32⟩
  | .hbm, ⟨60, _⟩ => ⟨S3456x5120, .f32⟩
  | _, _ => ⟨S1536x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Proof.PiecesK.lean ====
module
public import proofs.«01_k».proof.Proof.Gen.Kernel.Frame
public import proofs.«01_k».proof.Proof.Gen.Kernel.Skeleton
public import Idealize.ShloMosaic.Lib.Claim
public import Idealize.ShloMosaic.Lib.ValueIdx
public import Idealize.ShloMosaic.Lib.ValueLayout
public import Idealize.ShloMosaic.Lib.Pipeline.Value
@[expose] public section
set_option maxRecDepth 16384
noncomputable section
namespace Cert.Proof.K
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
variable {F : FTy → Type} [FloatOps F]
local notation "𝕄" => MT nD τ sig Unit (Elt F) ℕ (UR sig nD τ) ℕ

/-- A token-by-column block turned to column-by-token. -/
def xT (x4 : Vec F S1536x256 .bf16) : Vec F S256x1536 .bf16 := fun y => x4 (ix2 (y 1) (y 0))

/-- Rows `b .. b+383` of the held gradient replaced by a turned block of 384 columns. -/
def putRows (b : ℕ) (x3 : Vec F S1536x384 .bf16) (x6 : Vec F S3456x1536 .bf16) : Vec F S3456x1536 .bf16 := fun y =>
  if h : b ≤ (y 0).val ∧ (y 0).val < b + 384 then x3 (ix2 (y 1) ⟨(y 0).val - b, by omega⟩) else x6 y

/-- The scales' pair after both stores. -/
def pair (a b : F .f32) : Vec F S2 .f32 := fun y => if (y 0).val = 0 then a else b

/-- The eight row chunks of the product of the held gradient with a turned block, each times the scale. -/
def outv (s : F .f32) (xh : Vec F S256x1536 .bf16) (dy : Vec F S3456x1536 .bf16) : Vec F S3456x256 .f32 :=
  View.canon (Val := Elt F) (s := S3456x256) (e := .f32)
    [⟨Rect.unit ![3024, 0] S432x256.size inb_S3456x256_S432x256_3024_0, k0_pay9 s xh (View.ld dy (Rect.unit (s := S3456x1536) ![3024, 0] S432x1536.size inb_S3456x1536_S432x1536_3024_0))⟩,
     ⟨Rect.unit ![2592, 0] S432x256.size inb_S3456x256_S432x256_2592_0, k0_pay9 s xh (View.ld dy (Rect.unit (s := S3456x1536) ![2592, 0] S432x1536.size inb_S3456x1536_S432x1536_2592_0))⟩,
     ⟨Rect.unit ![2160, 0] S432x256.size inb_S3456x256_S432x256_2160_0, k0_pay9 s xh (View.ld dy (Rect.unit (s := S3456x1536) ![2160, 0] S432x1536.size inb_S3456x1536_S432x1536_2160_0))⟩,
     ⟨Rect.unit ![1728, 0] S432x256.size inb_S3456x256_S432x256_1728_0, k0_pay9 s xh (View.ld dy (Rect.unit (s := S3456x1536) ![1728, 0] S432x1536.size inb_S3456x1536_S432x1536_1728_0))⟩,
     ⟨Rect.unit ![1296, 0] S432x256.size inb_S3456x256_S432x256_1296_0, k0_pay9 s xh (View.ld dy (Rect.unit (s := S3456x1536) ![1296, 0] S432x1536.size inb_S3456x1536_S432x1536_1296_0))⟩,
     ⟨Rect.unit ![864, 0] S432x256.size inb_S3456x256_S432x256_864_0, k0_pay9 s xh (View.ld dy (Rect.unit (s := S3456x1536) ![864, 0] S432x1536.size inb_S3456x1536_S432x1536_864_0))⟩,
     ⟨Rect.unit ![432, 0] S432x256.size inb_S3456x256_S432x256_432_0, k0_pay9 s xh (View.ld dy (Rect.unit (s := S3456x1536) ![432, 0] S432x1536.size inb_S3456x1536_S432x1536_432_0))⟩,
     ⟨Rect.unit ![0, 0] S432x256.size inb_S3456x256_S432x256_0_0, k0_pay9 s xh (View.ld dy (Rect.unit (s := S3456x1536) ![0, 0] S432x1536.size inb_S3456x1536_S432x1536_0_0))⟩]

theorem fill_piece (x4 : Vec F S1536x256 .bf16) (o : ℕ) (hi : ∀ a, (![o, 0] : Fin 2 → ℕ) a + S128x256.size a ≤ S1536x256.size a)
    (ho : ∀ a, (![0, o] : Fin 2 → ℕ) a + S256x128.size a ≤ S256x1536.size a) (x : S256x128.Idx) :
    k0_pay39 (View.ld x4 (Rect.unit (s := S1536x256) ![o, 0] S128x256.size hi)) x
      = xT x4 ((Rect.unit (s := S256x1536) ![0, o] S256x128.size ho).emb x) := by
  obtain ⟨a, b, rfl⟩ : ∃ a b, x = ix2 a b := ⟨x 0, x 1, eq_ix2 x⟩
  unfold k0_pay39
  simp only [shapeCast_self]
  rw [transpose_ix2_apply]
  refine congrArg x4 (funext fun k => Fin.ext ?_)
  fin_cases k
  · rfl
  · show 0 + 1 * a.val = 0 + 1 * a.val
    rfl

theorem rows_piece (x3 : Vec F S1536x384 .bf16) (x6 : Vec F S3456x1536 .bf16) (b o : ℕ) (off : Fin 2 → ℕ) (hoff : off = ![b, o])
    (hi : ∀ a, (![o, 0] : Fin 2 → ℕ) a + S256x384.size a ≤ S1536x384.size a)
    (ho : ∀ a, off a + S384x256.size a ≤ S3456x1536.size a) (x : S384x256.Idx) :
    k0_pay35 (View.ld x3 (Rect.unit (s := S1536x384) ![o, 0] S256x384.size hi)) x
      = putRows b x3 x6 ((Rect.unit (s := S3456x1536) off S384x256.size ho).emb x) := by
  subst hoff
  obtain ⟨a, k, rfl⟩ : ∃ a k, x = ix2 a k := ⟨x 0, x 1, eq_ix2 x⟩
  unfold k0_pay35 putRows
  simp only [shapeCast_self]
  rw [transpose_ix2_apply]
  have ha : a.val < 384 := a.isLt
  have hb : (((Rect.unit (s := S3456x1536) ![b, o] S384x256.size ho).emb (ix2 a k)) 0).val = b + 1 * a.val := rfl
  rw [dif_pos (show _ ∧ _ from ⟨by show b ≤ b + 1 * a.val; omega, by show b + 1 * a.val < b + 384; omega⟩)]
  refine congrArg x3 (funext fun j => Fin.ext ?_)
  fin_cases j
  · rfl
  · show 0 + 1 * a.val = (b + 1 * a.val) - b
    omega

/-- A buffer after a list of writes, read where a piece holds the index, or where nothing was asked to change. -/
theorem read_writes_eq {s : Shape} {e : EltTy} {κ : Kind} {sp : Space} (v : View sig κ sp s e) (f : v.ty.Contents (Elt F)) (G : s.Idx → Elt F e) :
    ∀ L : List (View.Piece (Elt F) s e), (∀ p ∈ L, ∀ x : p.1.shape.Idx, p.2 x = G (p.1.emb x)) → ∀ y : s.Idx,
      ((∃ p ∈ L, y ∈ p.1.set) ∨ G y = v.read (Elt F) f y) → v.read (Elt F) (v.writes (Elt F) f L) y = G y
  | [], _, y, h => by
    rcases h with ⟨p, hp, _⟩ | h
    · exact absurd hp List.not_mem_nil
    · exact h.symm
  | p :: L, hL, y, h => by
    by_cases hy : y ∈ p.1.set
    · obtain ⟨r, w⟩ := p
      obtain ⟨x, rfl⟩ : ∃ x, r.emb x = y := r.exists_idx_of_mem hy
      rw [View.read_writes_cons_emb]
      exact hL _ List.mem_cons_self x
    · have hy' : y ∉ Finset.univ.map p.1.emb := by rwa [Rect.map_emb_univ]
      rw [View.writes_cons, View.read_slice_write_of_not_mem p.1 _ _ _ hy']
      refine read_writes_eq v f G L (fun q hq => hL q (List.mem_cons_of_mem _ hq)) y ?_
      rcases h with ⟨q, hq, hq'⟩ | h
      · rcases List.mem_cons.mp hq with rfl | hq
        · exact absurd hq' hy
        · exact .inl ⟨q, hq, hq'⟩
      · exact .inr h

theorem putRows_of_out (b : ℕ) (x3 : Vec F S1536x384 .bf16) (x6 : Vec F S3456x1536 .bf16) (y : S3456x1536.Idx)
    (h : ¬ (b ≤ (y 0).val ∧ (y 0).val < b + 384)) : putRows b x3 x6 y = x6 y := dif_neg h

theorem mem_rows {b o : ℕ} {off : Fin 2 → ℕ} (hoff : off = ![b, o]) (ho : ∀ a, off a + S384x256.size a ≤ S3456x1536.size a)
    (y : S3456x1536.Idx) (h : b ≤ (y 0).val ∧ (y 0).val < b + 384) (h' : o ≤ (y 1).val ∧ (y 1).val < o + 256) :
    y ∈ (Rect.unit (s := S3456x1536) off S384x256.size ho).set := by
  subst hoff
  rw [Rect.mem_set_unit]
  intro a
  fin_cases a
  · exact h
  · exact h'

theorem lt1536 (y : S3456x1536.Idx) : (y 1).val < 1536 := (y 1).isLt

theorem ld_first1 (x : Vec F S1 .f32) (h : ∀ a, (![0] : Fin 1 → ℕ) a + S1.size a ≤ S1.size a) (k : (Rect.unit (s := S1) ![0] S1.size h).shape.Idx) :
    View.ld x (Rect.unit (s := S1) ![0] S1.size h) k = x (ix1 0) := by
  refine congrArg x (funext fun a => Fin.ext ?_)
  have : ((Rect.unit (s := S1) ![0] S1.size h).idx k a).val < 1 := by fin_cases a; exact ((Rect.unit (s := S1) ![0] S1.size h).idx k 0).isLt
  fin_cases a
  show _ = 0
  exact Nat.lt_one_iff.mp this

theorem ld_first2 (x : Vec F S2 .f32) (o : ℕ) (ho : o < 2) (h : ∀ a, (![o] : Fin 1 → ℕ) a + S1.size a ≤ S2.size a) (k : (Rect.unit (s := S2) ![o] S1.size h).shape.Idx) :
    View.ld x (Rect.unit (s := S2) ![o] S1.size h) k = x (ix1 ⟨o, ho⟩) := by
  refine congrArg x (funext fun a => Fin.ext ?_)
  fin_cases a
  have hk : (k 0).val < 1 := (k 0).isLt
  show o + 1 * (k 0).val = o
  omega

theorem pair_piece (a b w : F .f32) (o : ℕ) (ho : o < 2) (hw : w = if o = 0 then a else b)
    (h : ∀ a, (![o] : Fin 1 → ℕ) a + S1.size a ≤ S2.size a) (k : (Rect.unit (s := S2) ![o] S1.size h).shape.Idx) :
    w = pair a b ((Rect.unit (s := S2) ![o] S1.size h).emb k) := by
  have hk : (k 0).val < 1 := (k 0).isLt
  have e : (((Rect.unit (s := S2) ![o] S1.size h).emb k) 0).val = o := by show o + 1 * (k 0).val = o; omega
  unfold pair
  rw [hw, e]

/-- Chunk `j` of columns of a token block of the gradient; the last, narrower one. -/
def colC (x : Vec F S256x3456 .bf16) (j : Fin 13) : Vec F S256x256 .bf16 := fun y =>
  x (ix2 (y 0) ⟨256 * j.val + (y 1).val, by have := j.isLt; have := (y 1).isLt; change (y 1).val < 256 at this; omega⟩)
def colL (x : Vec F S256x3456 .bf16) : Vec F S256x128 .bf16 := fun y =>
  x (ix2 (y 0) ⟨3328 + (y 1).val, by have := (y 1).isLt; change (y 1).val < 128 at this; omega⟩)

/-- The sixteen rows of block maxima of a token block. -/
def amaxB (rp : Vec F S256x256 .bf16) (x : Vec F S256x3456 .bf16) (a : Fin 16) (c : Fin 3456) : F .f32 :=
  if h : c.val < 3328 then k0_pay19 rp (colC x ⟨c.val / 256, by omega⟩) (ix2 a ⟨c.val % 256, by omega⟩)
  else k0_pay98 rp (colL x) (ix2 a ⟨c.val - 3328, by omega⟩)

theorem lt96 (y : S96x3456.Idx) : (y 0).val < 96 := (y 0).isLt

/-- Rows `16 n .. 16 n + 15` of the block maxima replaced. -/
def putA (n : Fin 6) (am : Fin 16 → Fin 3456 → F .f32) (x : Vec F S96x3456 .f32) : Vec F S96x3456 .f32 := fun y =>
  if h : 16 * n.val ≤ (y 0).val ∧ (y 0).val < 16 * n.val + 16 then am ⟨(y 0).val - 16 * n.val, by omega⟩ (y 1) else x y

theorem putA_of_out (n : Fin 6) (am : Fin 16 → Fin 3456 → F .f32) (x : Vec F S96x3456 .f32) (y : S96x3456.Idx)
    (h : ¬ (16 * n.val ≤ (y 0).val ∧ (y 0).val < 16 * n.val + 16)) : putA n am x y = x y := dif_neg h

theorem amax_piece (n : Fin 6) (rp : Vec F S256x256 .bf16) (x : Vec F S256x3456 .bf16) (x11 : Vec F S96x3456 .f32) (j : Fin 13) (o : ℕ) (hoo : o = 256 * j.val)
    (off : Fin 2 → ℕ) (hoff : off = ![16 * n.val, o]) (hi : ∀ a, (![0, o] : Fin 2 → ℕ) a + S256x256.size a ≤ S256x3456.size a)
    (ho : ∀ a, off a + S16x256.size a ≤ S96x3456.size a) (y : S16x256.Idx) :
    k0_pay19 rp (View.ld x (Rect.unit (s := S256x3456) ![0, o] S256x256.size hi)) y
      = putA n (amaxB rp x) x11 ((Rect.unit (s := S96x3456) off S16x256.size ho).emb y) := by
  subst hoff
  subst hoo
  obtain ⟨a, c, rfl⟩ : ∃ a c, y = ix2 a c := ⟨y 0, y 1, eq_ix2 y⟩
  have hj := j.isLt
  have e0 : View.ld x (Rect.unit (s := S256x3456) ![0, 256 * j.val] S256x256.size hi) = colC x j := by
    funext y
    refine congrArg x (funext fun k => Fin.ext ?_)
    fin_cases k
    · show 0 + 1 * (y 0).val = (y 0).val
      omega
    · show 256 * j.val + 1 * (y 1).val = 256 * j.val + (y 1).val
      omega
  rw [e0]
  unfold putA
  rw [dif_pos (show _ ∧ _ from ⟨by show 16 * n.val ≤ 16 * n.val + 1 * a.val; omega, by show 16 * n.val + 1 * a.val < 16 * n.val + 16; omega⟩)]
  have e1 : (⟨(((Rect.unit (s := S96x3456) ![16 * n.val, 256 * j.val] S16x256.size ho).emb (ix2 a c)) 0).val - 16 * n.val, by show 16 * n.val + 1 * a.val - 16 * n.val < 16; omega⟩ : Fin 16) = a :=
    Fin.ext (by show 16 * n.val + 1 * a.val - 16 * n.val = a.val; omega)
  have e2 : ((Rect.unit (s := S96x3456) ![16 * n.val, 256 * j.val] S16x256.size ho).emb (ix2 a c)) 1 = (⟨256 * j.val + c.val, by omega⟩ : Fin 3456) :=
    Fin.ext (by show 256 * j.val + 1 * c.val = 256 * j.val + c.val; omega)
  refine Eq.trans ?_ (congrArg₂ (amaxB rp x) e1 e2).symm
  unfold amaxB
  rw [dif_pos (show 256 * j.val + c.val < 3328 by omega)]
  have e3 : (⟨(256 * j.val + c.val) / 256, by omega⟩ : Fin 13) = j := Fin.ext (by show (256 * j.val + c.val) / 256 = j.val; omega)
  have e4 : (⟨(256 * j.val + c.val) % 256, by omega⟩ : Fin 256) = c := Fin.ext (by show (256 * j.val + c.val) % 256 = c.val; omega)
  show _ = k0_pay19 rp (colC x (⟨(256 * j.val + c.val) / 256, by omega⟩ : Fin 13)) (ix2 a (⟨(256 * j.val + c.val) % 256, by omega⟩ : Fin 256))
  rw [e3, e4]

theorem amax_last (n : Fin 6) (rp : Vec F S256x256 .bf16) (x : Vec F S256x3456 .bf16) (x11 : Vec F S96x3456 .f32)
    (off : Fin 2 → ℕ) (hoff : off = ![16 * n.val, 3328]) (hi : ∀ a, (![0, 3328] : Fin 2 → ℕ) a + S256x128.size a ≤ S256x3456.size a)
    (ho : ∀ a, off a + S16x128.size a ≤ S96x3456.size a) (y : S16x128.Idx) :
    k0_pay98 rp (View.ld x (Rect.unit (s := S256x3456) ![0, 3328] S256x128.size hi)) y
      = putA n (amaxB rp x) x11 ((Rect.unit (s := S96x3456) off S16x128.size ho).emb y) := by
  subst hoff
  obtain ⟨a, c, rfl⟩ : ∃ a c, y = ix2 a c := ⟨y 0, y 1, eq_ix2 y⟩
  have e0 : View.ld x (Rect.unit (s := S256x3456) ![0, 3328] S256x128.size hi) = colL x := by
    funext y
    refine congrArg x (funext fun k => Fin.ext ?_)
    fin_cases k
    · show 0 + 1 * (y 0).val = (y 0).val
      omega
    · show 3328 + 1 * (y 1).val = 3328 + (y 1).val
      omega
  rw [e0]
  unfold putA
  rw [dif_pos (show _ ∧ _ from ⟨by show 16 * n.val ≤ 16 * n.val + 1 * a.val; omega, by show 16 * n.val + 1 * a.val < 16 * n.val + 16; omega⟩)]
  have e1 : (⟨(((Rect.unit (s := S96x3456) ![16 * n.val, 3328] S16x128.size ho).emb (ix2 a c)) 0).val - 16 * n.val, by show 16 * n.val + 1 * a.val - 16 * n.val < 16; omega⟩ : Fin 16) = a :=
    Fin.ext (by show 16 * n.val + 1 * a.val - 16 * n.val = a.val; omega)
  have e2 : ((Rect.unit (s := S96x3456) ![16 * n.val, 3328] S16x128.size ho).emb (ix2 a c)) 1 = (⟨3328 + c.val, by omega⟩ : Fin 3456) :=
    Fin.ext (by show 3328 + 1 * c.val = 3328 + c.val; omega)
  refine Eq.trans ?_ (congrArg₂ (amaxB rp x) e1 e2).symm
  unfold amaxB
  rw [dif_neg (show ¬ 3328 + c.val < 3328 by omega)]
  have e4 : (⟨3328 + c.val - 3328, by omega⟩ : Fin 128) = c := Fin.ext (by show 3328 + c.val - 3328 = c.val; omega)
  show _ = k0_pay98 rp (colL x) (ix2 a (⟨3328 + c.val - 3328, by omega⟩ : Fin 128))
  rw [e4]

theorem mem_rowsA {n : Fin 6} {o w : ℕ} {S : Fin 2 → ℕ} (hS : S = ![16, w]) {off : Fin 2 → ℕ} (hoff : off = ![16 * n.val, o]) (ho : ∀ a, off a + S a ≤ S96x3456.size a)
    (y : S96x3456.Idx) (h : 16 * n.val ≤ (y 0).val ∧ (y 0).val < 16 * n.val + 16) (h' : o ≤ (y 1).val ∧ (y 1).val < o + w) :
    y ∈ (Rect.unit (s := S96x3456) off S ho).set := by
  subst hoff
  subst hS
  rw [Rect.mem_set_unit]
  intro a
  fin_cases a
  · exact h
  · exact h'

theorem lt3456 (y : S96x3456.Idx) : (y 1).val < 3456 := (y 1).isLt

/-- The rotation of sixteen tokens spaced sixteen apart, with the signs `w`. -/
def rpM (w : Fin 16 → F .f32) : Vec F S256x256 .bf16 :=
  k0_pay95 (iota .tc S256x256 32 [0] iota_S256x256_d0_w32) (iota .tc S256x256 32 [1] iota_S256x256_d1_w32) (k0_pay12 (F := F))
    (k0_pay16 k0_pay13 (k0_pay14 (w 0) (w 1) (w 2) (w 3) (w 4) (w 5) (w 6)) k0_pay15 (w 7) (w 8) (w 9) (w 10) (w 11) (w 12) (w 13) (w 14)) (k0_pay17 k0_pay13) (k0_pay18 (w 15))

/-- Columns `384 q .. 384 q + 383` of the block maxima. -/
def colsA (q : Fin 9) (x : Vec F S96x3456 .f32) : Vec F S96x384 .f32 := fun y =>
  x (ix2 (y 0) ⟨384 * q.val + (y 1).val, by have := q.isLt; have := (y 1).isLt; change (y 1).val < 384 at this; omega⟩)

theorem cols_ld (x : Vec F S96x3456 .f32) (q : Fin 9) (off : Fin 2 → ℕ) (hoff : off = ![0, 384 * q.val]) (hi : ∀ a, off a + S96x384.size a ≤ S96x3456.size a) :
    View.ld x (Rect.unit (s := S96x3456) off S96x384.size hi) = colsA q x := by
  subst hoff
  funext y
  refine congrArg x (funext fun k => Fin.ext ?_)
  fin_cases k
  · show 0 + 1 * (y 0).val = (y 0).val
    omega
  · show 384 * q.val + 1 * (y 1).val = 384 * q.val + (y 1).val
    omega

theorem ld_first16 (x : Vec F S16 .f32) (o : ℕ) (ho : o < 16) (h : ∀ a, (![o] : Fin 1 → ℕ) a + S1.size a ≤ S16.size a) (k : (Rect.unit (s := S16) ![o] S1.size h).shape.Idx) :
    View.ld x (Rect.unit (s := S16) ![o] S1.size h) k = x (ix1 ⟨o, ho⟩) := by
  refine congrArg x (funext fun a => Fin.ext ?_)
  fin_cases a
  have hk : (k 0).val < 1 := (k 0).isLt
  show o + 1 * (k 0).val = o
  omega
end Cert.Proof.K
-- ==== Proof.BodyK.lean ====
module
public import proofs.«01_k».proof.Proof.PiecesK
public import Idealize.ShloMosaic.Lib.Pipeline.ValueKit.Basic
@[expose] public section
set_option maxRecDepth 16384
noncomputable section
namespace Cert.Proof.K
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
variable {F : FTy → Type} [FloatOps F]
local notation "𝕄" => MT nD τ sig Unit (Elt F) ℕ (UR sig nD τ) ℕ

/-- The first branch's condition: the step is the first. -/
abbrev c1 (i : grid0.Coords) : BitVec 1 := Scalar.cmpi .ne (Scalar.extui (Scalar.cmpi .eq (BitVec.ofNat 32 (i 0).val) 0#32)) 0#32
/-- The fifth branch's condition: the step turns the first block of the activations. -/
abbrev c5 (i : grid0.Coords) : BitVec 1 := Scalar.cmpi .ne (Scalar.extui (Scalar.cmpi .eq (BitVec.ofNat 32 (i 0).val) 15#32)) 0#32

theorem colC_ld (x : Vec F S256x3456 .bf16) (j : Fin 13) (o : ℕ) (hoo : o = 256 * j.val) (hi : ∀ a, (![0, o] : Fin 2 → ℕ) a + S256x256.size a ≤ S256x3456.size a) :
    View.ld x (Rect.unit (s := S256x3456) ![0, o] S256x256.size hi) = colC x j := by
  subst hoo
  funext y
  refine congrArg x (funext fun k => Fin.ext ?_)
  fin_cases k
  · show 0 + 1 * (y 0).val = (y 0).val
    omega
  · show 256 * j.val + 1 * (y 1).val = 256 * j.val + (y 1).val
    omega

theorem colL_ld (x : Vec F S256x3456 .bf16) (hi : ∀ a, (![0, 3328] : Fin 2 → ℕ) a + S256x128.size a ≤ S256x3456.size a) :
    View.ld x (Rect.unit (s := S256x3456) ![0, 3328] S256x128.size hi) = colL x := by
  funext y
  refine congrArg x (funext fun k => Fin.ext ?_)
  fin_cases k
  · show 0 + 1 * (y 0).val = (y 0).val
    omega
  · show 3328 + 1 * (y 1).val = 3328 + (y 1).val
    omega

theorem colin (j : Fin 13) : ∀ a, (![0, 256 * j.val] : Fin 2 → ℕ) a + S256x256.size a ≤ S256x3456.size a := by
  intro a
  have := j.isLt
  fin_cases a
  · exact Nat.le_refl 256
  · show 256 * j.val + 256 ≤ 3456
    omega

theorem amax_pieceC (n : Fin 6) (rp : Vec F S256x256 .bf16) (x : Vec F S256x3456 .bf16) (x11 : Vec F S96x3456 .f32) (j : Fin 13) (o : ℕ) (hoo : o = 256 * j.val)
    (off : Fin 2 → ℕ) (hoff : off = ![16 * n.val, o]) (ho : ∀ a, off a + S16x256.size a ≤ S96x3456.size a) (y : S16x256.Idx) :
    k0_pay19 rp (colC x j) y = putA n (amaxB rp x) x11 ((Rect.unit (s := S96x3456) off S16x256.size ho).emb y) := by
  subst hoo
  rw [← colC_ld x j _ rfl (colin j)]
  exact amax_piece n rp x x11 j _ rfl off hoff _ ho y

theorem amax_lastC (n : Fin 6) (rp : Vec F S256x256 .bf16) (x : Vec F S256x3456 .bf16) (x11 : Vec F S96x3456 .f32)
    (off : Fin 2 → ℕ) (hoff : off = ![16 * n.val, 3328]) (ho : ∀ a, off a + S16x128.size a ≤ S96x3456.size a) (y : S16x128.Idx) :
    k0_pay98 rp (colL x) y = putA n (amaxB rp x) x11 ((Rect.unit (s := S96x3456) off S16x128.size ho).emb y) := by
  rw [← colL_ld x inb_S256x3456_S256x128_0_3328]
  exact amax_last n rp x x11 off hoff _ ho y

theorem pp0 (r v : Vec F S256x256 .bf16) : k0_pay19 r v = k0_pay19 r v := rfl
theorem pp1 (r v : Vec F S256x256 .bf16) : k0_pay20 r v = k0_pay19 r v := rfl
theorem pp2 (r v : Vec F S256x256 .bf16) : k0_pay22 (k0_pay21 r v) = k0_pay19 r v := rfl
theorem pp3 (r v : Vec F S256x256 .bf16) : k0_pay23 r v = k0_pay19 r v := rfl
theorem pp4 (r v : Vec F S256x256 .bf16) : k0_pay24 r v = k0_pay19 r v := rfl
theorem pp5 (r v : Vec F S256x256 .bf16) : k0_pay26 (k0_pay25 r v) = k0_pay19 r v := rfl
theorem pp6 (r v : Vec F S256x256 .bf16) : k0_pay27 r v = k0_pay19 r v := rfl
theorem pp7 (r v : Vec F S256x256 .bf16) : k0_pay28 r v = k0_pay19 r v := rfl
theorem pp8 (r v : Vec F S256x256 .bf16) : k0_pay30 (k0_pay29 r v) = k0_pay19 r v := rfl
theorem pp9 (r v : Vec F S256x256 .bf16) : k0_pay31 r v = k0_pay19 r v := rfl
theorem pp10 (r v : Vec F S256x256 .bf16) : k0_pay32 r v = k0_pay19 r v := rfl
theorem pp11 (r v : Vec F S256x256 .bf16) : k0_pay96 (k0_pay33 r v) = k0_pay19 r v := rfl
theorem pp12 (r v : Vec F S256x256 .bf16) : k0_pay97 r v = k0_pay19 r v := rfl

theorem hj0 : 0 = 256 * (⟨0, by decide⟩ : Fin 13).val := by norm_num
theorem hj1 : 256 = 256 * (⟨1, by decide⟩ : Fin 13).val := by norm_num
theorem hj2 : 512 = 256 * (⟨2, by decide⟩ : Fin 13).val := by norm_num
theorem hj3 : 768 = 256 * (⟨3, by decide⟩ : Fin 13).val := by norm_num
theorem hj4 : 1024 = 256 * (⟨4, by decide⟩ : Fin 13).val := by norm_num
theorem hj5 : 1280 = 256 * (⟨5, by decide⟩ : Fin 13).val := by norm_num
theorem hj6 : 1536 = 256 * (⟨6, by decide⟩ : Fin 13).val := by norm_num
theorem hj7 : 1792 = 256 * (⟨7, by decide⟩ : Fin 13).val := by norm_num
theorem hj8 : 2048 = 256 * (⟨8, by decide⟩ : Fin 13).val := by norm_num
theorem hj9 : 2304 = 256 * (⟨9, by decide⟩ : Fin 13).val := by norm_num
theorem hj10 : 2560 = 256 * (⟨10, by decide⟩ : Fin 13).val := by norm_num
theorem hj11 : 2816 = 256 * (⟨11, by decide⟩ : Fin 13).val := by norm_num
theorem hj12 : 3072 = 256 * (⟨12, by decide⟩ : Fin 13).val := by norm_num

theorem in16 (k : Fin 16) : ∀ a, (![k.val] : Fin 1 → ℕ) a + S1.size a ≤ S16.size a := by
  intro a
  fin_cases a
  show k.val + 1 ≤ 16
  omega

set_option maxHeartbeats 1000000 in
/-- The first step builds the rotation and takes the first block of maxima. -/
theorem body_start (c : Dev nD) (E : Set ℕ) (i : grid0.Coords) (h1 : c1 i = 1#1) (h2 : k0_cond2 i = 1#1) (h3 : ¬ k0_cond3 i = 1#1) (h4 : ¬ k0_cond4 i = 1#1) (h5 : ¬ c5 i = 1#1) (h6 : ¬ k0_cond6 i = 1#1) (h7 : ¬ k0_cond7 i = 1#1) (h8 : ¬ k0_cond8 i = 1#1)
    (n : Fin 6) (ho1 : k0_off1 i = ![16 * n.val, 0]) (ho2 : k0_off2 i = ![16 * n.val, 256]) (ho3 : k0_off3 i = ![16 * n.val, 512]) (ho4 : k0_off4 i = ![16 * n.val, 768]) (ho5 : k0_off5 i = ![16 * n.val, 1024]) (ho6 : k0_off6 i = ![16 * n.val, 1280]) (ho7 : k0_off7 i = ![16 * n.val, 1536]) (ho8 : k0_off8 i = ![16 * n.val, 1792]) (ho9 : k0_off9 i = ![16 * n.val, 2048]) (ho10 : k0_off10 i = ![16 * n.val, 2304]) (ho11 : k0_off11 i = ![16 * n.val, 2560]) (ho12 : k0_off12 i = ![16 * n.val, 2816]) (ho13 : k0_off13 i = ![16 * n.val, 3072]) (ho14 : k0_off14 i = ![16 * n.val, 3328])
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x1 : Vec F S16 .f32) (x3 : Vec F S256x3456 .bf16) (x9 : Vec F S96x3456 .f32) (K : PUnit → sProp 𝕄) :
    iprop(owns (c : Thread nD τ) arg1 fullShare (x1) ∗ owns (c : Thread nD τ) arg3 fullShare (x3) ∗ owns (c : Thread nD τ) arg9 fullShare (x9) ∗ (∃ d, owns (c : Thread nD τ) arg13 fullShare d)
      ∗ (iprop(owns (c : Thread nD τ) arg1 fullShare (x1) ∗ owns (c : Thread nD τ) arg3 fullShare (x3) ∗ owns (c : Thread nD τ) arg9 fullShare (putA n (amaxB (rpM (fun k : Fin 16 => x1 (ix1 k))) x3) x9) ∗ owns (c : Thread nD τ) arg13 fullShare (rpM (fun k : Fin 16 => x1 (ix1 k)))) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, dif_pos h1, dif_pos h2, dif_neg h3, dif_neg h4, dif_neg h5, dif_neg h6, dif_neg h7, dif_neg h8]
  unfold owns
  iintro ⟨⟨%f1, %hf1, H1⟩, ⟨%f3, %hf3, H3⟩, ⟨%f9, %hf9, H9⟩, ⟨%d13, %f13, -, H13⟩, Hk⟩
  subst hf1 hf3 hf9
  letI I1 : ClosedOff (k0_off1 i) := ⟨![16 * n.val, 0], ho1⟩
  letI I2 : ClosedOff (k0_off2 i) := ⟨![16 * n.val, 256], ho2⟩
  letI I3 : ClosedOff (k0_off3 i) := ⟨![16 * n.val, 512], ho3⟩
  letI I4 : ClosedOff (k0_off4 i) := ⟨![16 * n.val, 768], ho4⟩
  letI I5 : ClosedOff (k0_off5 i) := ⟨![16 * n.val, 1024], ho5⟩
  letI I6 : ClosedOff (k0_off6 i) := ⟨![16 * n.val, 1280], ho6⟩
  letI I7 : ClosedOff (k0_off7 i) := ⟨![16 * n.val, 1536], ho7⟩
  letI I8 : ClosedOff (k0_off8 i) := ⟨![16 * n.val, 1792], ho8⟩
  letI I9 : ClosedOff (k0_off9 i) := ⟨![16 * n.val, 2048], ho9⟩
  letI I10 : ClosedOff (k0_off10 i) := ⟨![16 * n.val, 2304], ho10⟩
  letI I11 : ClosedOff (k0_off11 i) := ⟨![16 * n.val, 2560], ho11⟩
  letI I12 : ClosedOff (k0_off12 i) := ⟨![16 * n.val, 2816], ho12⟩
  letI I13 : ClosedOff (k0_off13 i) := ⟨![16 * n.val, 3072], ho13⟩
  letI I14 : ClosedOff (k0_off14 i) := ⟨![16 * n.val, 3328], ho14⟩
  sl_exec
  sl_step
  iapply Hk
  have eP : rpM (fun k : Fin 16 => View.readAt (Elt F) arg1.view (Rect.unit (s := S16) ![k.val] S1.size (in16 k)).toLoadRect f1 (Shape.Idx.first (numel1_S1.symm ▸ Nat.one_pos)))
      = rpM (fun k : Fin 16 => arg1.view.read (Elt F) f1 (ix1 k)) := congrArg rpM (funext fun k => ld_first16 (arg1.view.read (Elt F) f1) k.val k.isLt _ _)
  isplitl [H1]
  · iexists f1; isplitr; · ipureintro; rfl
    iexact H1
  isplitl [H3]
  · iexists f3; isplitr; · ipureintro; rfl
    iexact H3
  isplitl [H9]
  · iexists _; isplitr; swap; · iexact H9
    ipureintro
    have eV : body_start.sl.v55 c arg1 arg13 f1 = rpM (fun k : Fin 16 => arg1.view.read (Elt F) f1 (ix1 k)) := (View.readCov_unit_zero (S := S256x256) _ (by decide) _ _).trans eP
    funext y
    have eC0 : View.readAt (Elt F) arg3.view (Rect.unit (s := S256x3456) ![0, 0] S256x256.size inb_S256x3456_S256x256_0_0).toLoadRect f3 = colC (arg3.view.read (Elt F) f3) ⟨0, by decide⟩ := colC_ld _ _ _ hj0 _
    have eC1 : View.readAt (Elt F) arg3.view (Rect.unit (s := S256x3456) ![0, 256] S256x256.size inb_S256x3456_S256x256_0_256).toLoadRect f3 = colC (arg3.view.read (Elt F) f3) ⟨1, by decide⟩ := colC_ld _ _ _ hj1 _
    have eC2 : View.readAt (Elt F) arg3.view (Rect.unit (s := S256x3456) ![0, 512] S256x256.size inb_S256x3456_S256x256_0_512).toLoadRect f3 = colC (arg3.view.read (Elt F) f3) ⟨2, by decide⟩ := colC_ld _ _ _ hj2 _
    have eC3 : View.readAt (Elt F) arg3.view (Rect.unit (s := S256x3456) ![0, 768] S256x256.size inb_S256x3456_S256x256_0_768).toLoadRect f3 = colC (arg3.view.read (Elt F) f3) ⟨3, by decide⟩ := colC_ld _ _ _ hj3 _
    have eC4 : View.readAt (Elt F) arg3.view (Rect.unit (s := S256x3456) ![0, 1024] S256x256.size inb_S256x3456_S256x256_0_1024).toLoadRect f3 = colC (arg3.view.read (Elt F) f3) ⟨4, by decide⟩ := colC_ld _ _ _ hj4 _
    have eC5 : View.readAt (Elt F) arg3.view (Rect.unit (s := S256x3456) ![0, 1280] S256x256.size inb_S256x3456_S256x256_0_1280).toLoadRect f3 = colC (arg3.view.read (Elt F) f3) ⟨5, by decide⟩ := colC_ld _ _ _ hj5 _
    have eC6 : View.readAt (Elt F) arg3.view (Rect.unit (s := S256x3456) ![0, 1536] S256x256.size inb_S256x3456_S256x256_0_1536).toLoadRect f3 = colC (arg3.view.read (Elt F) f3) ⟨6, by decide⟩ := colC_ld _ _ _ hj6 _
    have eC7 : View.readAt (Elt F) arg3.view (Rect.unit (s := S256x3456) ![0, 1792] S256x256.size inb_S256x3456_S256x256_0_1792).toLoadRect f3 = colC (arg3.view.read (Elt F) f3) ⟨7, by decide⟩ := colC_ld _ _ _ hj7 _
    have eC8 : View.readAt (Elt F) arg3.view (Rect.unit (s := S256x3456) ![0, 2048] S256x256.size inb_S256x3456_S256x256_0_2048).toLoadRect f3 = colC (arg3.view.read (Elt F) f3) ⟨8, by decide⟩ := colC_ld _ _ _ hj8 _
    have eC9 : View.readAt (Elt F) arg3.view (Rect.unit (s := S256x3456) ![0, 2304] S256x256.size inb_S256x3456_S256x256_0_2304).toLoadRect f3 = colC (arg3.view.read (Elt F) f3) ⟨9, by decide⟩ := colC_ld _ _ _ hj9 _
    have eC10 : View.readAt (Elt F) arg3.view (Rect.unit (s := S256x3456) ![0, 2560] S256x256.size inb_S256x3456_S256x256_0_2560).toLoadRect f3 = colC (arg3.view.read (Elt F) f3) ⟨10, by decide⟩ := colC_ld _ _ _ hj10 _
    have eC11 : View.readAt (Elt F) arg3.view (Rect.unit (s := S256x3456) ![0, 2816] S256x256.size inb_S256x3456_S256x256_0_2816).toLoadRect f3 = colC (arg3.view.read (Elt F) f3) ⟨11, by decide⟩ := colC_ld _ _ _ hj11 _
    have eC12 : View.readAt (Elt F) arg3.view (Rect.unit (s := S256x3456) ![0, 3072] S256x256.size inb_S256x3456_S256x256_0_3072).toLoadRect f3 = colC (arg3.view.read (Elt F) f3) ⟨12, by decide⟩ := colC_ld _ _ _ hj12 _
    have eL : View.readAt (Elt F) arg3.view (Rect.unit (s := S256x3456) ![0, 3328] S256x128.size inb_S256x3456_S256x128_0_3328).toLoadRect f3 = colL (arg3.view.read (Elt F) f3) := colL_ld _ _
    refine read_writes_eq _ _ (putA n (amaxB (rpM (fun k : Fin 16 => arg1.view.read (Elt F) f1 (ix1 k))) (arg3.view.read (Elt F) f3)) (arg9.view.read (Elt F) f9)) _ ?_ y ?_
    · refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩
      · intro x; dsimp only; rw [eV, eL]; exact amax_lastC n _ _ _ (k0_off14 i) ho14 (k0_off14_inb i h2) x
      · intro x; dsimp only; rw [eV, eC12, pp12]; exact amax_pieceC n _ _ _ ⟨12, by decide⟩ 3072 hj12 (k0_off13 i) ho13 (k0_off13_inb i h2) x
      · intro x; dsimp only; rw [eV, eC11, pp11]; exact amax_pieceC n _ _ _ ⟨11, by decide⟩ 2816 hj11 (k0_off12 i) ho12 (k0_off12_inb i h2) x
      · intro x; dsimp only; rw [eV, eC10, pp10]; exact amax_pieceC n _ _ _ ⟨10, by decide⟩ 2560 hj10 (k0_off11 i) ho11 (k0_off11_inb i h2) x
      · intro x; dsimp only; rw [eV, eC9, pp9]; exact amax_pieceC n _ _ _ ⟨9, by decide⟩ 2304 hj9 (k0_off10 i) ho10 (k0_off10_inb i h2) x
      · intro x; dsimp only; rw [eV, eC8, pp8]; exact amax_pieceC n _ _ _ ⟨8, by decide⟩ 2048 hj8 (k0_off9 i) ho9 (k0_off9_inb i h2) x
      · intro x; dsimp only; rw [eV, eC7, pp7]; exact amax_pieceC n _ _ _ ⟨7, by decide⟩ 1792 hj7 (k0_off8 i) ho8 (k0_off8_inb i h2) x
      · intro x; dsimp only; rw [eV, eC6, pp6]; exact amax_pieceC n _ _ _ ⟨6, by decide⟩ 1536 hj6 (k0_off7 i) ho7 (k0_off7_inb i h2) x
      · intro x; dsimp only; rw [eV, eC5, pp5]; exact amax_pieceC n _ _ _ ⟨5, by decide⟩ 1280 hj5 (k0_off6 i) ho6 (k0_off6_inb i h2) x
      · intro x; dsimp only; rw [eV, eC4, pp4]; exact amax_pieceC n _ _ _ ⟨4, by decide⟩ 1024 hj4 (k0_off5 i) ho5 (k0_off5_inb i h2) x
      · intro x; dsimp only; rw [eV, eC3, pp3]; exact amax_pieceC n _ _ _ ⟨3, by decide⟩ 768 hj3 (k0_off4 i) ho4 (k0_off4_inb i h2) x
      · intro x; dsimp only; rw [eV, eC2, pp2]; exact amax_pieceC n _ _ _ ⟨2, by decide⟩ 512 hj2 (k0_off3 i) ho3 (k0_off3_inb i h2) x
      · intro x; dsimp only; rw [eV, eC1, pp1]; exact amax_pieceC n _ _ _ ⟨1, by decide⟩ 256 hj1 (k0_off2 i) ho2 (k0_off2_inb i h2) x
      · intro x; dsimp only; rw [eV, eC0, pp0]; exact amax_pieceC n _ _ _ ⟨0, by decide⟩ 0 hj0 (k0_off1 i) ho1 (k0_off1_inb i h2) x
    · by_cases h : 16 * n.val ≤ (y 0).val ∧ (y 0).val < 16 * n.val + 16
      · left
        have hy := lt3456 y
        rcases Nat.lt_or_ge (y 1).val 256 with g1 | g1
        · exact ⟨_, .tail _ (.tail _ (.tail _ (.tail _ (.tail _ (.tail _ (.tail _ (.tail _ (.tail _ (.tail _ (.tail _ (.tail _ (.tail _ (.head _))))))))))))), mem_rowsA rfl ho1 (k0_off1_inb i h2) y h ⟨by omega, by omega⟩⟩
        rcases Nat.lt_or_ge (y 1).val 512 with g2 | g2
        · exact ⟨_, .tail _ (.tail _ (.tail _ (.tail _ (.tail _ (.tail _ (.tail _ (.tail _ (.tail _ (.tail _ (.tail _ (.tail _ (.head _)))))))))))), mem_rowsA rfl ho2 (k0_off2_inb i h2) y h ⟨by omega, by omega⟩⟩
        rcases Nat.lt_or_ge (y 1).val 768 with g3 | g3
        · exact ⟨_, .tail _ (.tail _ (.tail _ (.tail _ (.tail _ (.tail _ (.tail _ (.tail _ (.tail _ (.tail _ (.tail _ (.head _))))))))))), mem_rowsA rfl ho3 (k0_off3_inb i h2) y h ⟨by omega, by omega⟩⟩
        rcases Nat.lt_or_ge (y 1).val 1024 with g4 | g4
        · exact ⟨_, .tail _ (.tail _ (.tail _ (.tail _ (.tail _ (.tail _ (.tail _ (.tail _ (.tail _ (.tail _ (.head _)))))))))), mem_rowsA rfl ho4 (k0_off4_inb i h2) y h ⟨by omega, by omega⟩⟩
        rcases Nat.lt_or_ge (y 1).val 1280 with g5 | g5
        · exact ⟨_, .tail _ (.tail _ (.tail _ (.tail _ (.tail _ (.tail _ (.tail _ (.tail _ (.tail _ (.head _))))))))), mem_rowsA rfl ho5 (k0_off5_inb i h2) y h ⟨by omega, by omega⟩⟩
        rcases Nat.lt_or_ge (y 1).val 1536 with g6 | g6
        · exact ⟨_, .tail _ (.tail _ (.tail _ (.tail _ (.tail _ (.tail _ (.tail _ (.tail _ (.head _)))))))), mem_rowsA rfl ho6 (k0_off6_inb i h2) y h ⟨by omega, by omega⟩⟩
        rcases Nat.lt_or_ge (y 1).val 1792 with g7 | g7
        · exact ⟨_, .tail _ (.tail _ (.tail _ (.tail _ (.tail _ (.tail _ (.tail _ (.head _))))))), mem_rowsA rfl ho7 (k0_off7_inb i h2) y h ⟨by omega, by omega⟩⟩
        rcases Nat.lt_or_ge (y 1).val 2048 with g8 | g8
        · exact ⟨_, .tail _ (.tail _ (.tail _ (.tail _ (.tail _ (.tail _ (.head _)))))), mem_rowsA rfl ho8 (k0_off8_inb i h2) y h ⟨by omega, by omega⟩⟩
        rcases Nat.lt_or_ge (y 1).val 2304 with g9 | g9
        · exact ⟨_, .tail _ (.tail _ (.tail _ (.tail _ (.tail _ (.head _))))), mem_rowsA rfl ho9 (k0_off9_inb i h2) y h ⟨by omega, by omega⟩⟩
        rcases Nat.lt_or_ge (y 1).val 2560 with g10 | g10
        · exact ⟨_, .tail _ (.tail _ (.tail _ (.tail _ (.head _)))), mem_rowsA rfl ho10 (k0_off10_inb i h2) y h ⟨by omega, by omega⟩⟩
        rcases Nat.lt_or_ge (y 1).val 2816 with g11 | g11
        · exact ⟨_, .tail _ (.tail _ (.tail _ (.head _))), mem_rowsA rfl ho11 (k0_off11_inb i h2) y h ⟨by omega, by omega⟩⟩
        rcases Nat.lt_or_ge (y 1).val 3072 with g12 | g12
        · exact ⟨_, .tail _ (.tail _ (.head _)), mem_rowsA rfl ho12 (k0_off12_inb i h2) y h ⟨by omega, by omega⟩⟩
        rcases Nat.lt_or_ge (y 1).val 3328 with g13 | g13
        · exact ⟨_, .tail _ (.head _), mem_rowsA rfl ho13 (k0_off13_inb i h2) y h ⟨by omega, by omega⟩⟩
        · exact ⟨_, .head _, mem_rowsA (w := 128) rfl ho14 (k0_off14_inb i h2) y h ⟨by omega, by omega⟩⟩
      · right
        exact putA_of_out _ _ _ y h
  · iexists _; isplitr; swap; · iexact H13
    ipureintro
    refine (View.read_writes_eq_canon _ _ _ ?_).trans ?_
    · exact View.cover_of_tiled (s := S256x256) _ S256x256.size (by rfl)
    exact Eq.trans (View.canon_unit_zero (S := S256x256) (by decide : (![0, 0] : Fin 2 → ℕ) = fun _ => 0) inb_S256x256_S256x256_0_0 _) eP

set_option maxHeartbeats 1000000 in
/-- A step that takes one block of maxima. -/
theorem body_amax (c : Dev nD) (E : Set ℕ) (i : grid0.Coords) (h1 : ¬ c1 i = 1#1) (h2 : k0_cond2 i = 1#1) (h3 : ¬ k0_cond3 i = 1#1) (h4 : ¬ k0_cond4 i = 1#1) (h5 : ¬ c5 i = 1#1) (h6 : ¬ k0_cond6 i = 1#1) (h7 : ¬ k0_cond7 i = 1#1) (h8 : ¬ k0_cond8 i = 1#1)
    (n : Fin 6) (ho1 : k0_off1 i = ![16 * n.val, 0]) (ho2 : k0_off2 i = ![16 * n.val, 256]) (ho3 : k0_off3 i = ![16 * n.val, 512]) (ho4 : k0_off4 i = ![16 * n.val, 768]) (ho5 : k0_off5 i = ![16 * n.val, 1024]) (ho6 : k0_off6 i = ![16 * n.val, 1280]) (ho7 : k0_off7 i = ![16 * n.val, 1536]) (ho8 : k0_off8 i = ![16 * n.val, 1792]) (ho9 : k0_off9 i = ![16 * n.val, 2048]) (ho10 : k0_off10 i = ![16 * n.val, 2304]) (ho11 : k0_off11 i = ![16 * n.val, 2560]) (ho12 : k0_off12 i = ![16 * n.val, 2816]) (ho13 : k0_off13 i = ![16 * n.val, 3072]) (ho14 : k0_off14 i = ![16 * n.val, 3328])
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x3 : Vec F S256x3456 .bf16) (x9 : Vec F S96x3456 .f32) (x13 : Vec F S256x256 .bf16) (K : PUnit → sProp 𝕄) :
    iprop(owns (c : Thread nD τ) arg3 fullShare (x3) ∗ owns (c : Thread nD τ) arg9 fullShare (x9) ∗ owns (c : Thread nD τ) arg13 fullShare (x13)
      ∗ (iprop(owns (c : Thread nD τ) arg3 fullShare (x3) ∗ owns (c : Thread nD τ) arg9 fullShare (putA n (amaxB x13 x3) x9) ∗ owns (c : Thread nD τ) arg13 fullShare (x13)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part3_eq_skeleton, k0_part3_skel, k0_part4_eq_skeleton, k0_part4_skel, k0_part5_eq_skeleton, k0_part5_skel, k0_part6_eq_skeleton, k0_part6_skel, dif_neg h1, dif_pos h2, dif_neg h3, dif_neg h4, dif_neg h5, dif_neg h6, dif_neg h7, dif_neg h8]
  unfold owns
  iintro ⟨⟨%f3, %hf3, H3⟩, ⟨%f9, %hf9, H9⟩, ⟨%f13, %hf13, H13⟩, Hk⟩
  subst hf3 hf9 hf13
  letI I1 : ClosedOff (k0_off1 i) := ⟨![16 * n.val, 0], ho1⟩
  letI I2 : ClosedOff (k0_off2 i) := ⟨![16 * n.val, 256], ho2⟩
  letI I3 : ClosedOff (k0_off3 i) := ⟨![16 * n.val, 512], ho3⟩
  letI I4 : ClosedOff (k0_off4 i) := ⟨![16 * n.val, 768], ho4⟩
  letI I5 : ClosedOff (k0_off5 i) := ⟨![16 * n.val, 1024], ho5⟩
  letI I6 : ClosedOff (k0_off6 i) := ⟨![16 * n.val, 1280], ho6⟩
  letI I7 : ClosedOff (k0_off7 i) := ⟨![16 * n.val, 1536], ho7⟩
  letI I8 : ClosedOff (k0_off8 i) := ⟨![16 * n.val, 1792], ho8⟩
  letI I9 : ClosedOff (k0_off9 i) := ⟨![16 * n.val, 2048], ho9⟩
  letI I10 : ClosedOff (k0_off10 i) := ⟨![16 * n.val, 2304], ho10⟩
  letI I11 : ClosedOff (k0_off11 i) := ⟨![16 * n.val, 2560], ho11⟩
  letI I12 : ClosedOff (k0_off12 i) := ⟨![16 * n.val, 2816], ho12⟩
  letI I13 : ClosedOff (k0_off13 i) := ⟨![16 * n.val, 3072], ho13⟩
  letI I14 : ClosedOff (k0_off14 i) := ⟨![16 * n.val, 3328], ho14⟩
  sl_exec
  sl_step
  iapply Hk
  have eR : View.readAt (Elt F) arg13.view (Rect.unit (s := S256x256) ![0, 0] S256x256.size inb_S256x256_S256x256_0_0).toLoadRect f13 = arg13.view.read (Elt F) f13 := View.ld_unit_lit _ _ (by decide)
  isplitl [H3]
  · iexists f3; isplitr; · ipureintro; rfl
    iexact H3
  isplitl [H9]
  · iexists _; isplitr; swap; · iexact H9
    ipureintro
    funext y
    have eC0 : View.readAt (Elt F) arg3.view (Rect.unit (s := S256x3456) ![0, 0] S256x256.size inb_S256x3456_S256x256_0_0).toLoadRect f3 = colC (arg3.view.read (Elt F) f3) ⟨0, by decide⟩ := colC_ld _ _ _ hj0 _
    have eC1 : View.readAt (Elt F) arg3.view (Rect.unit (s := S256x3456) ![0, 256] S256x256.size inb_S256x3456_S256x256_0_256).toLoadRect f3 = colC (arg3.view.read (Elt F) f3) ⟨1, by decide⟩ := colC_ld _ _ _ hj1 _
    have eC2 : View.readAt (Elt F) arg3.view (Rect.unit (s := S256x3456) ![0, 512] S256x256.size inb_S256x3456_S256x256_0_512).toLoadRect f3 = colC (arg3.view.read (Elt F) f3) ⟨2, by decide⟩ := colC_ld _ _ _ hj2 _
    have eC3 : View.readAt (Elt F) arg3.view (Rect.unit (s := S256x3456) ![0, 768] S256x256.size inb_S256x3456_S256x256_0_768).toLoadRect f3 = colC (arg3.view.read (Elt F) f3) ⟨3, by decide⟩ := colC_ld _ _ _ hj3 _
    have eC4 : View.readAt (Elt F) arg3.view (Rect.unit (s := S256x3456) ![0, 1024] S256x256.size inb_S256x3456_S256x256_0_1024).toLoadRect f3 = colC (arg3.view.read (Elt F) f3) ⟨4, by decide⟩ := colC_ld _ _ _ hj4 _
    have eC5 : View.readAt (Elt F) arg3.view (Rect.unit (s := S256x3456) ![0, 1280] S256x256.size inb_S256x3456_S256x256_0_1280).toLoadRect f3 = colC (arg3.view.read (Elt F) f3) ⟨5, by decide⟩ := colC_ld _ _ _ hj5 _
    have eC6 : View.readAt (Elt F) arg3.view (Rect.unit (s := S256x3456) ![0, 1536] S256x256.size inb_S256x3456_S256x256_0_1536).toLoadRect f3 = colC (arg3.view.read (Elt F) f3) ⟨6, by decide⟩ := colC_ld _ _ _ hj6 _
    have eC7 : View.readAt (Elt F) arg3.view (Rect.unit (s := S256x3456) ![0, 1792] S256x256.size inb_S256x3456_S256x256_0_1792).toLoadRect f3 = colC (arg3.view.read (Elt F) f3) ⟨7, by decide⟩ := colC_ld _ _ _ hj7 _
    have eC8 : View.readAt (Elt F) arg3.view (Rect.unit (s := S256x3456) ![0, 2048] S256x256.size inb_S256x3456_S256x256_0_2048).toLoadRect f3 = colC (arg3.view.read (Elt F) f3) ⟨8, by decide⟩ := colC_ld _ _ _ hj8 _
    have eC9 : View.readAt (Elt F) arg3.view (Rect.unit (s := S256x3456) ![0, 2304] S256x256.size inb_S256x3456_S256x256_0_2304).toLoadRect f3 = colC (arg3.view.read (Elt F) f3) ⟨9, by decide⟩ := colC_ld _ _ _ hj9 _
    have eC10 : View.readAt (Elt F) arg3.view (Rect.unit (s := S256x3456) ![0, 2560] S256x256.size inb_S256x3456_S256x256_0_2560).toLoadRect f3 = colC (arg3.view.read (Elt F) f3) ⟨10, by decide⟩ := colC_ld _ _ _ hj10 _
    have eC11 : View.readAt (Elt F) arg3.view (Rect.unit (s := S256x3456) ![0, 2816] S256x256.size inb_S256x3456_S256x256_0_2816).toLoadRect f3 = colC (arg3.view.read (Elt F) f3) ⟨11, by decide⟩ := colC_ld _ _ _ hj11 _
    have eC12 : View.readAt (Elt F) arg3.view (Rect.unit (s := S256x3456) ![0, 3072] S256x256.size inb_S256x3456_S256x256_0_3072).toLoadRect f3 = colC (arg3.view.read (Elt F) f3) ⟨12, by decide⟩ := colC_ld _ _ _ hj12 _
    have eL : View.readAt (Elt F) arg3.view (Rect.unit (s := S256x3456) ![0, 3328] S256x128.size inb_S256x3456_S256x128_0_3328).toLoadRect f3 = colL (arg3.view.read (Elt F) f3) := colL_ld _ _
    refine read_writes_eq _ _ (putA n (amaxB (arg13.view.read (Elt F) f13) (arg3.view.read (Elt F) f3)) (arg9.view.read (Elt F) f9)) _ ?_ y ?_
    · refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩
      · intro x; dsimp only; rw [eR, eL]; exact amax_lastC n _ _ _ (k0_off14 i) ho14 (k0_off14_inb i h2) x
      · intro x; dsimp only; rw [eR, eC12, pp12]; exact amax_pieceC n _ _ _ ⟨12, by decide⟩ 3072 hj12 (k0_off13 i) ho13 (k0_off13_inb i h2) x
      · intro x; dsimp only; rw [eR, eC11, pp11]; exact amax_pieceC n _ _ _ ⟨11, by decide⟩ 2816 hj11 (k0_off12 i) ho12 (k0_off12_inb i h2) x
      · intro x; dsimp only; rw [eR, eC10, pp10]; exact amax_pieceC n _ _ _ ⟨10, by decide⟩ 2560 hj10 (k0_off11 i) ho11 (k0_off11_inb i h2) x
      · intro x; dsimp only; rw [eR, eC9, pp9]; exact amax_pieceC n _ _ _ ⟨9, by decide⟩ 2304 hj9 (k0_off10 i) ho10 (k0_off10_inb i h2) x
      · intro x; dsimp only; rw [eR, eC8, pp8]; exact amax_pieceC n _ _ _ ⟨8, by decide⟩ 2048 hj8 (k0_off9 i) ho9 (k0_off9_inb i h2) x
      · intro x; dsimp only; rw [eR, eC7, pp7]; exact amax_pieceC n _ _ _ ⟨7, by decide⟩ 1792 hj7 (k0_off8 i) ho8 (k0_off8_inb i h2) x
      · intro x; dsimp only; rw [eR, eC6, pp6]; exact amax_pieceC n _ _ _ ⟨6, by decide⟩ 1536 hj6 (k0_off7 i) ho7 (k0_off7_inb i h2) x
      · intro x; dsimp only; rw [eR, eC5, pp5]; exact amax_pieceC n _ _ _ ⟨5, by decide⟩ 1280 hj5 (k0_off6 i) ho6 (k0_off6_inb i h2) x
      · intro x; dsimp only; rw [eR, eC4, pp4]; exact amax_pieceC n _ _ _ ⟨4, by decide⟩ 1024 hj4 (k0_off5 i) ho5 (k0_off5_inb i h2) x
      · intro x; dsimp only; rw [eR, eC3, pp3]; exact amax_pieceC n _ _ _ ⟨3, by decide⟩ 768 hj3 (k0_off4 i) ho4 (k0_off4_inb i h2) x
      · intro x; dsimp only; rw [eR, eC2, pp2]; exact amax_pieceC n _ _ _ ⟨2, by decide⟩ 512 hj2 (k0_off3 i) ho3 (k0_off3_inb i h2) x
      · intro x; dsimp only; rw [eR, eC1, pp1]; exact amax_pieceC n _ _ _ ⟨1, by decide⟩ 256 hj1 (k0_off2 i) ho2 (k0_off2_inb i h2) x
      · intro x; dsimp only; rw [eR, eC0, pp0]; exact amax_pieceC n _ _ _ ⟨0, by decide⟩ 0 hj0 (k0_off1 i) ho1 (k0_off1_inb i h2) x
    · by_cases h : 16 * n.val ≤ (y 0).val ∧ (y 0).val < 16 * n.val + 16
      · left
        have hy := lt3456 y
        rcases Nat.lt_or_ge (y 1).val 256 with g1 | g1
        · exact ⟨_, .tail _ (.tail _ (.tail _ (.tail _ (.tail _ (.tail _ (.tail _ (.tail _ (.tail _ (.tail _ (.tail _ (.tail _ (.tail _ (.head _))))))))))))), mem_rowsA rfl ho1 (k0_off1_inb i h2) y h ⟨by omega, by omega⟩⟩
        rcases Nat.lt_or_ge (y 1).val 512 with g2 | g2
        · exact ⟨_, .tail _ (.tail _ (.tail _ (.tail _ (.tail _ (.tail _ (.tail _ (.tail _ (.tail _ (.tail _ (.tail _ (.tail _ (.head _)))))))))))), mem_rowsA rfl ho2 (k0_off2_inb i h2) y h ⟨by omega, by omega⟩⟩
        rcases Nat.lt_or_ge (y 1).val 768 with g3 | g3
        · exact ⟨_, .tail _ (.tail _ (.tail _ (.tail _ (.tail _ (.tail _ (.tail _ (.tail _ (.tail _ (.tail _ (.tail _ (.head _))))))))))), mem_rowsA rfl ho3 (k0_off3_inb i h2) y h ⟨by omega, by omega⟩⟩
        rcases Nat.lt_or_ge (y 1).val 1024 with g4 | g4
        · exact ⟨_, .tail _ (.tail _ (.tail _ (.tail _ (.tail _ (.tail _ (.tail _ (.tail _ (.tail _ (.tail _ (.head _)))))))))), mem_rowsA rfl ho4 (k0_off4_inb i h2) y h ⟨by omega, by omega⟩⟩
        rcases Nat.lt_or_ge (y 1).val 1280 with g5 | g5
        · exact ⟨_, .tail _ (.tail _ (.tail _ (.tail _ (.tail _ (.tail _ (.tail _ (.tail _ (.tail _ (.head _))))))))), mem_rowsA rfl ho5 (k0_off5_inb i h2) y h ⟨by omega, by omega⟩⟩
        rcases Nat.lt_or_ge (y 1).val 1536 with g6 | g6
        · exact ⟨_, .tail _ (.tail _ (.tail _ (.tail _ (.tail _ (.tail _ (.tail _ (.tail _ (.head _)))))))), mem_rowsA rfl ho6 (k0_off6_inb i h2) y h ⟨by omega, by omega⟩⟩
        rcases Nat.lt_or_ge (y 1).val 1792 with g7 | g7
        · exact ⟨_, .tail _ (.tail _ (.tail _ (.tail _ (.tail _ (.tail _ (.tail _ (.head _))))))), mem_rowsA rfl ho7 (k0_off7_inb i h2) y h ⟨by omega, by omega⟩⟩
        rcases Nat.lt_or_ge (y 1).val 2048 with g8 | g8
        · exact ⟨_, .tail _ (.tail _ (.tail _ (.tail _ (.tail _ (.tail _ (.head _)))))), mem_rowsA rfl ho8 (k0_off8_inb i h2) y h ⟨by omega, by omega⟩⟩
        rcases Nat.lt_or_ge (y 1).val 2304 with g9 | g9
        · exact ⟨_, .tail _ (.tail _ (.tail _ (.tail _ (.tail _ (.head _))))), mem_rowsA rfl ho9 (k0_off9_inb i h2) y h ⟨by omega, by omega⟩⟩
        rcases Nat.lt_or_ge (y 1).val 2560 with g10 | g10
        · exact ⟨_, .tail _ (.tail _ (.tail _ (.tail _ (.head _)))), mem_rowsA rfl ho10 (k0_off10_inb i h2) y h ⟨by omega, by omega⟩⟩
        rcases Nat.lt_or_ge (y 1).val 2816 with g11 | g11
        · exact ⟨_, .tail _ (.tail _ (.tail _ (.head _))), mem_rowsA rfl ho11 (k0_off11_inb i h2) y h ⟨by omega, by omega⟩⟩
        rcases Nat.lt_or_ge (y 1).val 3072 with g12 | g12
        · exact ⟨_, .tail _ (.tail _ (.head _)), mem_rowsA rfl ho12 (k0_off12_inb i h2) y h ⟨by omega, by omega⟩⟩
        rcases Nat.lt_or_ge (y 1).val 3328 with g13 | g13
        · exact ⟨_, .tail _ (.head _), mem_rowsA rfl ho13 (k0_off13_inb i h2) y h ⟨by omega, by omega⟩⟩
        · exact ⟨_, .head _, mem_rowsA (w := 128) rfl ho14 (k0_off14_inb i h2) y h ⟨by omega, by omega⟩⟩
      · right
        exact putA_of_out _ _ _ y h
  · iexists f13; isplitr; · ipureintro; rfl
    iexact H13

set_option maxHeartbeats 1000000 in
/-- The step that computes the scale of the gradient, and handles its first column block. -/
theorem body_first (c : Dev nD) (E : Set ℕ) (i : grid0.Coords) (h1 : ¬ c1 i = 1#1) (h2 : ¬ k0_cond2 i = 1#1) (h3 : k0_cond3 i = 1#1) (h4 : k0_cond4 i = 1#1) (h5 : ¬ c5 i = 1#1) (h6 : ¬ k0_cond6 i = 1#1) (h7 : ¬ k0_cond7 i = 1#1) (h8 : ¬ k0_cond8 i = 1#1)
    (q : Fin 9) (ho15 : k0_off15 i = ![0, 384 * q.val]) (ho16 : k0_off16 i = ![384 * q.val, 0]) (ho17 : k0_off17 i = ![384 * q.val, 256]) (ho18 : k0_off18 i = ![384 * q.val, 512]) (ho19 : k0_off19 i = ![384 * q.val, 768]) (ho20 : k0_off20 i = ![384 * q.val, 1024]) (ho21 : k0_off21 i = ![384 * q.val, 1280])
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x2 : Vec F S1 .f32) (x4 : Vec F S1536x384 .bf16) (x9 : Vec F S96x3456 .f32) (x10 : Vec F S3456x1536 .bf16) (K : PUnit → sProp 𝕄) :
    iprop(owns (c : Thread nD τ) arg2 fullShare (x2) ∗ owns (c : Thread nD τ) arg4 fullShare (x4) ∗ (∃ d, owns (c : Thread nD τ) arg7 fullShare d) ∗ (∃ d, owns (c : Thread nD τ) arg8 fullShare d) ∗ owns (c : Thread nD τ) arg9 fullShare (x9) ∗ owns (c : Thread nD τ) arg10 fullShare (x10) ∗ (∃ d, owns (c : Thread nD τ) arg14 fullShare d)
      ∗ (iprop(owns (c : Thread nD τ) arg2 fullShare (x2) ∗ owns (c : Thread nD τ) arg4 fullShare (x4) ∗ owns (c : Thread nD τ) arg7 fullShare (k0_pay34 (colsA q x9) (k0_pay99 x9)) ∗ owns (c : Thread nD τ) arg8 fullShare (fun _ => k0_pay99 x9) ∗ owns (c : Thread nD τ) arg9 fullShare (x9) ∗ owns (c : Thread nD τ) arg10 fullShare (putRows (384 * q.val) x4 x10) ∗ owns (c : Thread nD τ) arg14 fullShare (pair (x2 (ix1 0)) (k0_pay99 x9))) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part7_eq_skeleton, k0_part7_skel, dif_neg h1, dif_neg h2, dif_pos h3, dif_pos h4, dif_neg h5, dif_neg h6, dif_neg h7, dif_neg h8]
  unfold owns
  iintro ⟨⟨%f2, %hf2, H2⟩, ⟨%f4, %hf4, H4⟩, ⟨%d7, %f7, -, H7⟩, ⟨%d8, %f8, -, H8⟩, ⟨%f9, %hf9, H9⟩, ⟨%f10, %hf10, H10⟩, ⟨%d14, %f14, -, H14⟩, Hk⟩
  subst hf2 hf4 hf9 hf10
  letI I16 : ClosedOff (k0_off16 i) := ⟨![384 * q.val, 0], ho16⟩
  letI I17 : ClosedOff (k0_off17 i) := ⟨![384 * q.val, 256], ho17⟩
  letI I18 : ClosedOff (k0_off18 i) := ⟨![384 * q.val, 512], ho18⟩
  letI I19 : ClosedOff (k0_off19 i) := ⟨![384 * q.val, 768], ho19⟩
  letI I20 : ClosedOff (k0_off20 i) := ⟨![384 * q.val, 1024], ho20⟩
  letI I21 : ClosedOff (k0_off21 i) := ⟨![384 * q.val, 1280], ho21⟩
  sl_exec
  sl_step
  iapply Hk
  have e9 : View.readAt (Elt F) arg9.view (Rect.unit (s := S96x3456) ![0, 0] S96x3456.size inb_S96x3456_S96x3456_0_0).toLoadRect f9 = arg9.view.read (Elt F) f9 := View.ld_unit_lit _ _ (by decide)
  isplitl [H2]
  · iexists f2; isplitr; · ipureintro; rfl
    iexact H2
  isplitl [H4]
  · iexists f4; isplitr; · ipureintro; rfl
    iexact H4
  isplitl [H7]
  · iexists _; isplitr; swap; · iexact H7
    ipureintro
    refine (View.read_writes_eq_canon _ _ _ ?_).trans ?_
    · exact View.cover_of_tiled (s := S96x384) _ S96x384.size (by rfl)
    rw [View.canon_unit_zero (by decide)]
    exact congrArg₂ k0_pay34 (cols_ld _ q _ ho15 _) (congrArg k0_pay99 e9)
  isplitl [H8]
  · iexists _; isplitr; swap; · iexact H8
    ipureintro
    refine (View.read_writes_eq_canon _ _ _ ?_).trans ?_
    · exact View.cover_of_tiled (s := S1) _ S1.size (by rfl)
    rw [View.canon_unit_zero (by decide)]
    exact funext fun _ => congrArg k0_pay99 e9
  isplitl [H9]
  · iexists f9; isplitr; · ipureintro; rfl
    iexact H9
  isplitl [H10]
  · iexists _; isplitr; swap; · iexact H10
    ipureintro
    funext y
    refine read_writes_eq _ _ (putRows (384 * q.val) (arg4.view.read (Elt F) f4) (arg10.view.read (Elt F) f10)) _ ?_ y ?_
    · simp only [List.forall_mem_cons, List.not_mem_nil, false_imp_iff, implies_true, _root_.and_true]
      exact ⟨fun x => rows_piece _ _ (384 * q.val) _ _ ho21 _ _ x, fun x => rows_piece _ _ (384 * q.val) _ _ ho20 _ _ x, fun x => rows_piece _ _ (384 * q.val) _ _ ho19 _ _ x, fun x => rows_piece _ _ (384 * q.val) _ _ ho18 _ _ x, fun x => rows_piece _ _ (384 * q.val) _ _ ho17 _ _ x, fun x => rows_piece _ _ (384 * q.val) _ _ ho16 _ _ x⟩
    · by_cases h : 384 * q.val ≤ (y 0).val ∧ (y 0).val < 384 * q.val + 384
      · left
        have hy := lt1536 y
        simp only [List.exists_mem_cons_iff, List.not_mem_nil, _root_.false_and, exists_false, _root_.or_false]
        rcases Nat.lt_or_ge (y 1).val 256 with h1 | h1
        · exact .inr (.inr (.inr (.inr (.inr ((mem_rows ho16 _ y h ⟨by omega, by omega⟩))))))
        rcases Nat.lt_or_ge (y 1).val 512 with h2 | h2
        · exact .inr (.inr (.inr (.inr (.inl (mem_rows ho17 _ y h ⟨by omega, by omega⟩)))))
        rcases Nat.lt_or_ge (y 1).val 768 with h3 | h3
        · exact .inr (.inr (.inr (.inl (mem_rows ho18 _ y h ⟨by omega, by omega⟩))))
        rcases Nat.lt_or_ge (y 1).val 1024 with h4 | h4
        · exact .inr (.inr (.inl (mem_rows ho19 _ y h ⟨by omega, by omega⟩)))
        rcases Nat.lt_or_ge (y 1).val 1280 with h5 | h5
        · exact .inr (.inl (mem_rows ho20 _ y h ⟨by omega, by omega⟩))
        · exact .inl (mem_rows ho21 _ y h ⟨by omega, by omega⟩)
      · right
        exact putRows_of_out _ _ _ y h
  · iexists _; isplitr; swap; · iexact H14
    ipureintro
    funext y
    refine read_writes_eq _ _ (pair (arg2.view.read (Elt F) f2 (ix1 0)) (k0_pay99 (arg9.view.read (Elt F) f9))) _ ?_ y (.inl ?_)
    swap; · exact View.cover_of_tiled (s := S2) _ S1.size (by rfl) y
    simp only [List.forall_mem_cons, List.not_mem_nil, false_imp_iff, implies_true, _root_.and_true]
    exact ⟨fun x => pair_piece _ _ _ 1 (by decide) (congrArg k0_pay99 e9) _ x, fun x => pair_piece _ _ _ 0 (by decide) (ld_first1 _ _ _) _ x⟩

set_option maxHeartbeats 1000000 in
/-- A step that handles one column block of the gradient. -/
theorem body_rows (c : Dev nD) (E : Set ℕ) (i : grid0.Coords) (h1 : ¬ c1 i = 1#1) (h2 : ¬ k0_cond2 i = 1#1) (h3 : ¬ k0_cond3 i = 1#1) (h4 : k0_cond4 i = 1#1) (h5 : ¬ c5 i = 1#1) (h6 : ¬ k0_cond6 i = 1#1) (h7 : ¬ k0_cond7 i = 1#1) (h8 : ¬ k0_cond8 i = 1#1)
    (q : Fin 9) (ho15 : k0_off15 i = ![0, 384 * q.val]) (ho16 : k0_off16 i = ![384 * q.val, 0]) (ho17 : k0_off17 i = ![384 * q.val, 256]) (ho18 : k0_off18 i = ![384 * q.val, 512]) (ho19 : k0_off19 i = ![384 * q.val, 768]) (ho20 : k0_off20 i = ![384 * q.val, 1024]) (ho21 : k0_off21 i = ![384 * q.val, 1280])
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x4 : Vec F S1536x384 .bf16) (x9 : Vec F S96x3456 .f32) (x10 : Vec F S3456x1536 .bf16) (x14 : Vec F S2 .f32) (K : PUnit → sProp 𝕄) :
    iprop(owns (c : Thread nD τ) arg4 fullShare (x4) ∗ (∃ d, owns (c : Thread nD τ) arg7 fullShare d) ∗ owns (c : Thread nD τ) arg9 fullShare (x9) ∗ owns (c : Thread nD τ) arg10 fullShare (x10) ∗ owns (c : Thread nD τ) arg14 fullShare (x14)
      ∗ (iprop(owns (c : Thread nD τ) arg4 fullShare (x4) ∗ owns (c : Thread nD τ) arg7 fullShare (k0_pay34 (colsA q x9) (x14 (ix1 1))) ∗ owns (c : Thread nD τ) arg9 fullShare (x9) ∗ owns (c : Thread nD τ) arg10 fullShare (putRows (384 * q.val) x4 x10) ∗ owns (c : Thread nD τ) arg14 fullShare (x14)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part7_eq_skeleton, k0_part7_skel, dif_neg h1, dif_neg h2, dif_neg h3, dif_pos h4, dif_neg h5, dif_neg h6, dif_neg h7, dif_neg h8]
  unfold owns
  iintro ⟨⟨%f4, %hf4, H4⟩, ⟨%d7, %f7, -, H7⟩, ⟨%f9, %hf9, H9⟩, ⟨%f10, %hf10, H10⟩, ⟨%f14, %hf14, H14⟩, Hk⟩
  subst hf4 hf9 hf10 hf14
  letI I16 : ClosedOff (k0_off16 i) := ⟨![384 * q.val, 0], ho16⟩
  letI I17 : ClosedOff (k0_off17 i) := ⟨![384 * q.val, 256], ho17⟩
  letI I18 : ClosedOff (k0_off18 i) := ⟨![384 * q.val, 512], ho18⟩
  letI I19 : ClosedOff (k0_off19 i) := ⟨![384 * q.val, 768], ho19⟩
  letI I20 : ClosedOff (k0_off20 i) := ⟨![384 * q.val, 1024], ho20⟩
  letI I21 : ClosedOff (k0_off21 i) := ⟨![384 * q.val, 1280], ho21⟩
  sl_exec
  sl_step
  iapply Hk
  isplitl [H4]
  · iexists f4; isplitr; · ipureintro; rfl
    iexact H4
  isplitl [H7]
  · iexists _; isplitr; swap; · iexact H7
    ipureintro
    refine (View.read_writes_eq_canon _ _ _ ?_).trans ?_
    · exact View.cover_of_tiled (s := S96x384) _ S96x384.size (by rfl)
    rw [View.canon_unit_zero (by decide)]
    exact congrArg₂ k0_pay34 (cols_ld _ q _ ho15 _) (ld_first2 (arg14.view.read (Elt F) f14) 1 (by decide) _ _)
  isplitl [H9]
  · iexists f9; isplitr; · ipureintro; rfl
    iexact H9
  isplitl [H10]
  · iexists _; isplitr; swap; · iexact H10
    ipureintro
    funext y
    refine read_writes_eq _ _ (putRows (384 * q.val) (arg4.view.read (Elt F) f4) (arg10.view.read (Elt F) f10)) _ ?_ y ?_
    · simp only [List.forall_mem_cons, List.not_mem_nil, false_imp_iff, implies_true, _root_.and_true]
      exact ⟨fun x => rows_piece _ _ (384 * q.val) _ _ ho21 _ _ x, fun x => rows_piece _ _ (384 * q.val) _ _ ho20 _ _ x, fun x => rows_piece _ _ (384 * q.val) _ _ ho19 _ _ x, fun x => rows_piece _ _ (384 * q.val) _ _ ho18 _ _ x, fun x => rows_piece _ _ (384 * q.val) _ _ ho17 _ _ x, fun x => rows_piece _ _ (384 * q.val) _ _ ho16 _ _ x⟩
    · by_cases h : 384 * q.val ≤ (y 0).val ∧ (y 0).val < 384 * q.val + 384
      · left
        have hy := lt1536 y
        simp only [List.exists_mem_cons_iff, List.not_mem_nil, _root_.false_and, exists_false, _root_.or_false]
        rcases Nat.lt_or_ge (y 1).val 256 with h1 | h1
        · exact .inr (.inr (.inr (.inr (.inr ((mem_rows ho16 _ y h ⟨by omega, by omega⟩))))))
        rcases Nat.lt_or_ge (y 1).val 512 with h2 | h2
        · exact .inr (.inr (.inr (.inr (.inl (mem_rows ho17 _ y h ⟨by omega, by omega⟩)))))
        rcases Nat.lt_or_ge (y 1).val 768 with h3 | h3
        · exact .inr (.inr (.inr (.inl (mem_rows ho18 _ y h ⟨by omega, by omega⟩))))
        rcases Nat.lt_or_ge (y 1).val 1024 with h4 | h4
        · exact .inr (.inr (.inl (mem_rows ho19 _ y h ⟨by omega, by omega⟩)))
        rcases Nat.lt_or_ge (y 1).val 1280 with h5 | h5
        · exact .inr (.inl (mem_rows ho20 _ y h ⟨by omega, by omega⟩))
        · exact .inl (mem_rows ho21 _ y h ⟨by omega, by omega⟩)
      · right
        exact putRows_of_out _ _ _ y h
  · iexists f14; isplitr; · ipureintro; rfl
    iexact H14

set_option maxHeartbeats 1000000 in
/-- The step that turns the first block of the activations. -/
theorem body_turn (c : Dev nD) (E : Set ℕ) (i : grid0.Coords) (h1 : ¬ c1 i = 1#1) (h2 : ¬ k0_cond2 i = 1#1) (h3 : ¬ k0_cond3 i = 1#1) (h4 : ¬ k0_cond4 i = 1#1) (h5 : c5 i = 1#1) (h6 : ¬ k0_cond6 i = 1#1) (h7 : ¬ k0_cond7 i = 1#1) (h8 : ¬ k0_cond8 i = 1#1)
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x5 : Vec F S1536x256 .bf16) (K : PUnit → sProp 𝕄) :
    iprop(owns (c : Thread nD τ) arg5 fullShare (x5) ∗ (∃ d, owns (c : Thread nD τ) arg11 fullShare d)
      ∗ (iprop(owns (c : Thread nD τ) arg5 fullShare (x5) ∗ owns (c : Thread nD τ) arg11 fullShare (xT x5)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part8_eq_skeleton, k0_part8_skel, k0_part9_eq_skeleton, k0_part9_skel, dif_neg h1, dif_neg h2, dif_neg h3, dif_neg h4, dif_pos h5, dif_neg h6, dif_neg h7, dif_neg h8]
  unfold owns
  iintro ⟨⟨%f5, %hf5, H5⟩, ⟨%d11, %f11, -, H11⟩, Hk⟩
  subst hf5
  sl_exec
  sl_step
  iapply Hk
  isplitl [H5]
  · iexists f5; isplitr; · ipureintro; rfl
    iexact H5
  · iexists _; isplitr; swap; · iexact H11
    ipureintro
    funext y
    refine read_writes_eq _ _ (xT (arg5.view.read (Elt F) f5)) _ ?_ y (.inl ?_)
    swap; · exact View.cover_of_tiled (s := S256x1536) _ S256x128.size (by rfl) y
    simp only [List.forall_mem_cons, List.not_mem_nil, false_imp_iff, implies_true, _root_.and_true]
    refine ⟨?_, ?_, ?_, ?_, ?_, ?_, ?_, ?_, ?_, ?_, ?_, ?_⟩ <;> exact fun x => fill_piece _ _ _ _ x

set_option maxHeartbeats 1000000 in
/-- An even step of the product phase: the product with the first buffer, the second filled. -/
theorem body_even (c : Dev nD) (E : Set ℕ) (i : grid0.Coords) (h1 : ¬ c1 i = 1#1) (h2 : ¬ k0_cond2 i = 1#1) (h3 : ¬ k0_cond3 i = 1#1) (h4 : ¬ k0_cond4 i = 1#1) (h5 : ¬ c5 i = 1#1) (h6 : k0_cond6 i = 1#1) (h7 : ¬ k0_cond7 i = 1#1) (h8 : ¬ k0_cond8 i = 1#1)
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x5 : Vec F S1536x256 .bf16) (x10 : Vec F S3456x1536 .bf16) (x11 : Vec F S256x1536 .bf16) (x14 : Vec F S2 .f32) (K : PUnit → sProp 𝕄) :
    iprop(owns (c : Thread nD τ) arg5 fullShare (x5) ∗ (∃ d, owns (c : Thread nD τ) arg6 fullShare d) ∗ owns (c : Thread nD τ) arg10 fullShare (x10) ∗ owns (c : Thread nD τ) arg11 fullShare (x11) ∗ (∃ d, owns (c : Thread nD τ) arg12 fullShare d) ∗ owns (c : Thread nD τ) arg14 fullShare (x14)
      ∗ (iprop(owns (c : Thread nD τ) arg5 fullShare (x5) ∗ owns (c : Thread nD τ) arg6 fullShare (outv (k0_pay51 (x14 (ix1 1)) (x14 (ix1 0))) x11 x10) ∗ owns (c : Thread nD τ) arg10 fullShare (x10) ∗ owns (c : Thread nD τ) arg11 fullShare (x11) ∗ owns (c : Thread nD τ) arg12 fullShare (xT x5) ∗ owns (c : Thread nD τ) arg14 fullShare (x14)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part10_eq_skeleton, k0_part10_skel, k0_part11_eq_skeleton, k0_part11_skel, k0_part12_eq_skeleton, k0_part12_skel, dif_neg h1, dif_neg h2, dif_neg h3, dif_neg h4, dif_neg h5, dif_pos h6, dif_neg h7, dif_neg h8]
  unfold owns
  iintro ⟨⟨%f5, %hf5, H5⟩, ⟨%d6, %f6, -, H6⟩, ⟨%f10, %hf10, H10⟩, ⟨%f11, %hf11, H11⟩, ⟨%d12, %f12, -, H12⟩, ⟨%f14, %hf14, H14⟩, Hk⟩
  subst hf5 hf10 hf11 hf14
  sl_exec
  sl_step
  iapply Hk
  isplitl [H5]
  · iexists f5; isplitr; · ipureintro; rfl
    iexact H5
  isplitl [H6]
  · iexists _; isplitr; swap; · iexact H6
    ipureintro
    refine (View.read_writes_eq_canon _ _ _ ?_).trans ?_
    · exact View.cover_of_tiled (s := S3456x256) _ S432x256.size (by rfl)
    unfold outv
    have e0 : View.readAt (Elt F) arg11.view (Rect.unit (s := S256x1536) ![0, 0] S256x1536.size inb_S256x1536_S256x1536_0_0).toLoadRect f11 = arg11.view.read (Elt F) f11 :=
      View.ld_unit_lit _ _ (by decide)
    have e1 : k0_pay51 (View.readAt (Elt F) arg14.view (Rect.unit (s := S2) ![1] S1.size inb_S2_S1_1).toLoadRect f14 (Shape.Idx.first (numel1_S1.symm ▸ Nat.one_pos)))
        (View.readAt (Elt F) arg14.view (Rect.unit (s := S2) ![0] S1.size inb_S2_S1_0).toLoadRect f14 (Shape.Idx.first (numel1_S1.symm ▸ Nat.one_pos)))
        = k0_pay51 (arg14.view.read (Elt F) f14 (ix1 1)) (arg14.view.read (Elt F) f14 (ix1 0)) :=
      congrArg₂ k0_pay51 (ld_first2 (arg14.view.read (Elt F) f14) 1 (by decide) _ _) (ld_first2 (arg14.view.read (Elt F) f14) 0 (by decide) _ _)
    rw [← e0, ← e1]
    rfl
  isplitl [H10]
  · iexists f10; isplitr; · ipureintro; rfl
    iexact H10
  isplitl [H11]
  · iexists f11; isplitr; · ipureintro; rfl
    iexact H11
  isplitl [H12]
  · iexists _; isplitr; swap; · iexact H12
    ipureintro
    funext y
    refine read_writes_eq _ _ (xT (arg5.view.read (Elt F) f5)) _ ?_ y (.inl ?_)
    swap; · exact View.cover_of_tiled (s := S256x1536) _ S256x128.size (by rfl) y
    simp only [List.forall_mem_cons, List.not_mem_nil, false_imp_iff, implies_true, _root_.and_true]
    refine ⟨?_, ?_, ?_, ?_, ?_, ?_, ?_, ?_, ?_, ?_, ?_, ?_⟩ <;> exact fun x => fill_piece _ _ _ _ x
  · iexists f14; isplitr; · ipureintro; rfl
    iexact H14

set_option maxHeartbeats 1000000 in
/-- An odd step of the product phase: the product with the second buffer, the first filled. -/
theorem body_odd (c : Dev nD) (E : Set ℕ) (i : grid0.Coords) (h1 : ¬ c1 i = 1#1) (h2 : ¬ k0_cond2 i = 1#1) (h3 : ¬ k0_cond3 i = 1#1) (h4 : ¬ k0_cond4 i = 1#1) (h5 : ¬ c5 i = 1#1) (h6 : ¬ k0_cond6 i = 1#1) (h7 : k0_cond7 i = 1#1) (h8 : ¬ k0_cond8 i = 1#1)
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x5 : Vec F S1536x256 .bf16) (x10 : Vec F S3456x1536 .bf16) (x12 : Vec F S256x1536 .bf16) (x14 : Vec F S2 .f32) (K : PUnit → sProp 𝕄) :
    iprop(owns (c : Thread nD τ) arg5 fullShare (x5) ∗ (∃ d, owns (c : Thread nD τ) arg6 fullShare d) ∗ owns (c : Thread nD τ) arg10 fullShare (x10) ∗ (∃ d, owns (c : Thread nD τ) arg11 fullShare d) ∗ owns (c : Thread nD τ) arg12 fullShare (x12) ∗ owns (c : Thread nD τ) arg14 fullShare (x14)
      ∗ (iprop(owns (c : Thread nD τ) arg5 fullShare (x5) ∗ owns (c : Thread nD τ) arg6 fullShare (outv (k0_pay51 (x14 (ix1 1)) (x14 (ix1 0))) x12 x10) ∗ owns (c : Thread nD τ) arg10 fullShare (x10) ∗ owns (c : Thread nD τ) arg11 fullShare (xT x5) ∗ owns (c : Thread nD τ) arg12 fullShare (x12) ∗ owns (c : Thread nD τ) arg14 fullShare (x14)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part13_eq_skeleton, k0_part13_skel, k0_part14_eq_skeleton, k0_part14_skel, k0_part15_eq_skeleton, k0_part15_skel, dif_neg h1, dif_neg h2, dif_neg h3, dif_neg h4, dif_neg h5, dif_neg h6, dif_pos h7, dif_neg h8]
  unfold owns
  iintro ⟨⟨%f5, %hf5, H5⟩, ⟨%d6, %f6, -, H6⟩, ⟨%f10, %hf10, H10⟩, ⟨%d11, %f11, -, H11⟩, ⟨%f12, %hf12, H12⟩, ⟨%f14, %hf14, H14⟩, Hk⟩
  subst hf5 hf10 hf12 hf14
  sl_exec
  sl_step
  iapply Hk
  isplitl [H5]
  · iexists f5; isplitr; · ipureintro; rfl
    iexact H5
  isplitl [H6]
  · iexists _; isplitr; swap; · iexact H6
    ipureintro
    refine (View.read_writes_eq_canon _ _ _ ?_).trans ?_
    · exact View.cover_of_tiled (s := S3456x256) _ S432x256.size (by rfl)
    unfold outv
    have e0 : View.readAt (Elt F) arg12.view (Rect.unit (s := S256x1536) ![0, 0] S256x1536.size inb_S256x1536_S256x1536_0_0).toLoadRect f12 = arg12.view.read (Elt F) f12 :=
      View.ld_unit_lit _ _ (by decide)
    have e1 : k0_pay51 (View.readAt (Elt F) arg14.view (Rect.unit (s := S2) ![1] S1.size inb_S2_S1_1).toLoadRect f14 (Shape.Idx.first (numel1_S1.symm ▸ Nat.one_pos)))
        (View.readAt (Elt F) arg14.view (Rect.unit (s := S2) ![0] S1.size inb_S2_S1_0).toLoadRect f14 (Shape.Idx.first (numel1_S1.symm ▸ Nat.one_pos)))
        = k0_pay51 (arg14.view.read (Elt F) f14 (ix1 1)) (arg14.view.read (Elt F) f14 (ix1 0)) :=
      congrArg₂ k0_pay51 (ld_first2 (arg14.view.read (Elt F) f14) 1 (by decide) _ _) (ld_first2 (arg14.view.read (Elt F) f14) 0 (by decide) _ _)
    rw [← e0, ← e1]
    rfl
  isplitl [H10]
  · iexists f10; isplitr; · ipureintro; rfl
    iexact H10
  isplitl [H11]
  · iexists _; isplitr; swap; · iexact H11
    ipureintro
    funext y
    refine read_writes_eq _ _ (xT (arg5.view.read (Elt F) f5)) _ ?_ y (.inl ?_)
    swap; · exact View.cover_of_tiled (s := S256x1536) _ S256x128.size (by rfl) y
    simp only [List.forall_mem_cons, List.not_mem_nil, false_imp_iff, implies_true, _root_.and_true]
    refine ⟨?_, ?_, ?_, ?_, ?_, ?_, ?_, ?_, ?_, ?_, ?_, ?_⟩ <;> exact fun x => fill_piece _ _ _ _ x
  isplitl [H12]
  · iexists f12; isplitr; · ipureintro; rfl
    iexact H12
  · iexists f14; isplitr; · ipureintro; rfl
    iexact H14

set_option maxHeartbeats 1000000 in
/-- The last step: the product with the second buffer. -/
theorem body_last (c : Dev nD) (E : Set ℕ) (i : grid0.Coords) (h1 : ¬ c1 i = 1#1) (h2 : ¬ k0_cond2 i = 1#1) (h3 : ¬ k0_cond3 i = 1#1) (h4 : ¬ k0_cond4 i = 1#1) (h5 : ¬ c5 i = 1#1) (h6 : ¬ k0_cond6 i = 1#1) (h7 : ¬ k0_cond7 i = 1#1) (h8 : k0_cond8 i = 1#1)
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x10 : Vec F S3456x1536 .bf16) (x12 : Vec F S256x1536 .bf16) (x14 : Vec F S2 .f32) (K : PUnit → sProp 𝕄) :
    iprop((∃ d, owns (c : Thread nD τ) arg6 fullShare d) ∗ owns (c : Thread nD τ) arg10 fullShare (x10) ∗ owns (c : Thread nD τ) arg12 fullShare (x12) ∗ owns (c : Thread nD τ) arg14 fullShare (x14)
      ∗ (iprop(owns (c : Thread nD τ) arg6 fullShare (outv (k0_pay51 (x14 (ix1 1)) (x14 (ix1 0))) x12 x10) ∗ owns (c : Thread nD τ) arg10 fullShare (x10) ∗ owns (c : Thread nD τ) arg12 fullShare (x12) ∗ owns (c : Thread nD τ) arg14 fullShare (x14)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part16_eq_skeleton, k0_part16_skel, dif_neg h1, dif_neg h2, dif_neg h3, dif_neg h4, dif_neg h5, dif_neg h6, dif_neg h7, dif_pos h8]
  unfold owns
  iintro ⟨⟨%d6, %f6, -, H6⟩, ⟨%f10, %hf10, H10⟩, ⟨%f12, %hf12, H12⟩, ⟨%f14, %hf14, H14⟩, Hk⟩
  subst hf10 hf12 hf14
  sl_exec
  sl_step
  iapply Hk
  isplitl [H6]
  · iexists _; isplitr; swap; · iexact H6
    ipureintro
    refine (View.read_writes_eq_canon _ _ _ ?_).trans ?_
    · exact View.cover_of_tiled (s := S3456x256) _ S432x256.size (by rfl)
    unfold outv
    have e0 : View.readAt (Elt F) arg12.view (Rect.unit (s := S256x1536) ![0, 0] S256x1536.size inb_S256x1536_S256x1536_0_0).toLoadRect f12 = arg12.view.read (Elt F) f12 :=
      View.ld_unit_lit _ _ (by decide)
    have e1 : k0_pay51 (View.readAt (Elt F) arg14.view (Rect.unit (s := S2) ![1] S1.size inb_S2_S1_1).toLoadRect f14 (Shape.Idx.first (numel1_S1.symm ▸ Nat.one_pos)))
        (View.readAt (Elt F) arg14.view (Rect.unit (s := S2) ![0] S1.size inb_S2_S1_0).toLoadRect f14 (Shape.Idx.first (numel1_S1.symm ▸ Nat.one_pos)))
        = k0_pay51 (arg14.view.read (Elt F) f14 (ix1 1)) (arg14.view.read (Elt F) f14 (ix1 0)) :=
      congrArg₂ k0_pay51 (ld_first2 (arg14.view.read (Elt F) f14) 1 (by decide) _ _) (ld_first2 (arg14.view.read (Elt F) f14) 0 (by decide) _ _)
    rw [← e0, ← e1]
    rfl
  isplitl [H10]
  · iexists f10; isplitr; · ipureintro; rfl
    iexact H10
  isplitl [H12]
  · iexists f12; isplitr; · ipureintro; rfl
    iexact H12
  · iexists f14; isplitr; · ipureintro; rfl
    iexact H14

end Cert.Proof.K
-- ==== Proof.RunK.lean ====
module
public import proofs.«01_k».proof.Proof.BodyK
public import proofs.«01_k».proof.Proof.Gen.Kernel.Launch
public import proofs.«01_k».proof.Proof.Gen.Kernel.Points
public import Idealize.ShloMosaic.Lib.Pipeline.TableIdle
@[expose] public section
set_option maxRecDepth 16384
noncomputable section
namespace Cert.Proof.K
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The grid -/

/-- The grid's point number `k`. -/
def pt (k : ℕ) : Fin cfg0.N := ⟨min k 35, Nat.lt_of_le_of_lt (Nat.min_le_right _ _) (by decide)⟩

theorem lt36 (t : Fin cfg0.N) : t.val < 36 := lt_of_lt_of_eq t.isLt N_0

theorem c1_iff : ∀ t : Fin grid0.N, c1 (grid0.coords t) = 1#1 ↔ t.val = 0 := by decide +kernel
theorem c2_iff : ∀ t : Fin grid0.N, k0_cond2 (grid0.coords t) = 1#1 ↔ t.val < 6 := by decide +kernel
theorem c3_iff : ∀ t : Fin grid0.N, k0_cond3 (grid0.coords t) = 1#1 ↔ t.val = 6 := by decide +kernel
theorem c4_iff : ∀ t : Fin grid0.N, k0_cond4 (grid0.coords t) = 1#1 ↔ 6 ≤ t.val ∧ t.val < 15 := by decide +kernel
theorem c5_iff : ∀ t : Fin grid0.N, c5 (grid0.coords t) = 1#1 ↔ t.val = 15 := by decide +kernel
theorem c6_iff : ∀ t : Fin grid0.N, k0_cond6 (grid0.coords t) = 1#1 ↔ 16 ≤ t.val ∧ t.val % 2 = 0 := by decide +kernel
theorem c7_iff : ∀ t : Fin grid0.N, k0_cond7 (grid0.coords t) = 1#1 ↔ 16 ≤ t.val ∧ t.val < 35 ∧ t.val % 2 = 1 := by decide +kernel
theorem c8_iff : ∀ t : Fin grid0.N, k0_cond8 (grid0.coords t) = 1#1 ↔ t.val = 35 := by decide +kernel
theorem idle5_iff : ∀ t : Fin grid0.N, idle0 5 (grid0.coords t) = true ↔ t.val < 16 := by decide +kernel
theorem idle6_iff : ∀ t : Fin grid0.N, idle0 6 (grid0.coords t) = true ↔ (t.val < 6 ∨ 15 ≤ t.val) := by decide +kernel
theorem idle7_iff : ∀ t : Fin grid0.N, idle0 7 (grid0.coords t) = true ↔ t.val ≠ 6 := by decide +kernel

/-- The number of the column block of step `k`. -/
def qn (k : ℕ) : Fin 9 := ⟨min (k - 6) 8, by omega⟩
theorem qn_val {k : ℕ} (h : k < 15) : (qn k).val = k - 6 := by show min (k - 6) 8 = _; omega
theorem off1_eq : ∀ t : Fin grid0.N, t.val < 6 → k0_off1 (grid0.coords t) = ![16 * t.val, 0] := by decide +kernel
theorem off2_eq : ∀ t : Fin grid0.N, t.val < 6 → k0_off2 (grid0.coords t) = ![16 * t.val, 256] := by decide +kernel
theorem off3_eq : ∀ t : Fin grid0.N, t.val < 6 → k0_off3 (grid0.coords t) = ![16 * t.val, 512] := by decide +kernel
theorem off4_eq : ∀ t : Fin grid0.N, t.val < 6 → k0_off4 (grid0.coords t) = ![16 * t.val, 768] := by decide +kernel
theorem off5_eq : ∀ t : Fin grid0.N, t.val < 6 → k0_off5 (grid0.coords t) = ![16 * t.val, 1024] := by decide +kernel
theorem off6_eq : ∀ t : Fin grid0.N, t.val < 6 → k0_off6 (grid0.coords t) = ![16 * t.val, 1280] := by decide +kernel
theorem off7_eq : ∀ t : Fin grid0.N, t.val < 6 → k0_off7 (grid0.coords t) = ![16 * t.val, 1536] := by decide +kernel
theorem off8_eq : ∀ t : Fin grid0.N, t.val < 6 → k0_off8 (grid0.coords t) = ![16 * t.val, 1792] := by decide +kernel
theorem off9_eq : ∀ t : Fin grid0.N, t.val < 6 → k0_off9 (grid0.coords t) = ![16 * t.val, 2048] := by decide +kernel
theorem off10_eq : ∀ t : Fin grid0.N, t.val < 6 → k0_off10 (grid0.coords t) = ![16 * t.val, 2304] := by decide +kernel
theorem off11_eq : ∀ t : Fin grid0.N, t.val < 6 → k0_off11 (grid0.coords t) = ![16 * t.val, 2560] := by decide +kernel
theorem off12_eq : ∀ t : Fin grid0.N, t.val < 6 → k0_off12 (grid0.coords t) = ![16 * t.val, 2816] := by decide +kernel
theorem off13_eq : ∀ t : Fin grid0.N, t.val < 6 → k0_off13 (grid0.coords t) = ![16 * t.val, 3072] := by decide +kernel
theorem off14_eq : ∀ t : Fin grid0.N, t.val < 6 → k0_off14 (grid0.coords t) = ![16 * t.val, 3328] := by decide +kernel
theorem off15_eq : ∀ t : Fin grid0.N, 6 ≤ t.val → t.val < 15 → k0_off15 (grid0.coords t) = ![0, 384 * (qn t.val).val] := by decide +kernel
theorem off16_eq : ∀ t : Fin grid0.N, 6 ≤ t.val → t.val < 15 → k0_off16 (grid0.coords t) = ![384 * (qn t.val).val, 0] := by decide +kernel
theorem off17_eq : ∀ t : Fin grid0.N, 6 ≤ t.val → t.val < 15 → k0_off17 (grid0.coords t) = ![384 * (qn t.val).val, 256] := by decide +kernel
theorem off18_eq : ∀ t : Fin grid0.N, 6 ≤ t.val → t.val < 15 → k0_off18 (grid0.coords t) = ![384 * (qn t.val).val, 512] := by decide +kernel
theorem off19_eq : ∀ t : Fin grid0.N, 6 ≤ t.val → t.val < 15 → k0_off19 (grid0.coords t) = ![384 * (qn t.val).val, 768] := by decide +kernel
theorem off20_eq : ∀ t : Fin grid0.N, 6 ≤ t.val → t.val < 15 → k0_off20 (grid0.coords t) = ![384 * (qn t.val).val, 1024] := by decide +kernel
theorem off21_eq : ∀ t : Fin grid0.N, 6 ≤ t.val → t.val < 15 → k0_off21 (grid0.coords t) = ![384 * (qn t.val).val, 1280] := by decide +kernel
theorem flush5_iff : ∀ t : Fin cfg0.N, (cfg0.win 5).flush t = true ↔ 16 ≤ t.val :=
  (by decide +kernel : ∀ t : Fin grid0.N, win0_5.flush t = true ↔ 16 ≤ t.val)
theorem flush6_iff : ∀ t : Fin cfg0.N, (cfg0.win 6).flush t = true ↔ ((6 ≤ t.val ∧ t.val < 14) ∨ t.val = 35) :=
  (by decide +kernel : ∀ t : Fin grid0.N, win0_6.flush t = true ↔ ((6 ≤ t.val ∧ t.val < 14) ∨ t.val = 35))
theorem flush7_iff : ∀ t : Fin cfg0.N, (cfg0.win 7).flush t = true ↔ t.val = 35 :=
  (by decide +kernel : ∀ t : Fin grid0.N, win0_7.flush t = true ↔ t.val = 35)

theorem fresh6 : ∀ n, n ≤ cfg0.N → cfg0.fresh 6 n = decide (n < 15 ∨ 35 < n) :=
  Pipeline.Cfg.fresh_tab cfg0 6 (fun n => decide (n < 15 ∨ 35 < n)) (by decide)
    (by decide +kernel : ∀ t : Fin grid0.N, decide (t.val + 1 < 15 ∨ 35 < t.val + 1) = (win0_6.flush t || (idle0 6 (grid0.coords t) && decide (t.val < 15 ∨ 35 < t.val))))
theorem fresh7 : ∀ n, n ≤ cfg0.N → cfg0.fresh 7 n = decide (n < 7 ∨ 35 < n) :=
  Pipeline.Cfg.fresh_tab cfg0 7 (fun n => decide (n < 7 ∨ 35 < n)) (by decide)
    (by decide +kernel : ∀ t : Fin grid0.N, decide (t.val + 1 < 7 ∨ 35 < t.val + 1) = (win0_7.flush t || (idle0 7 (grid0.coords t) && decide (t.val < 7 ∨ 35 < t.val))))

/-! ## What the buffers hold -/

/-- The blocks staged at point `t`: the signs, the scale of the activations, the gradient's rows, the quantised gradient's
    columns, the activations' columns. -/
def sgB (c : Dev nD) (t : Fin cfg0.N) : Vec F S16 .f32 := iblk m c 0 t
def xsB (c : Dev nD) (t : Fin cfg0.N) : Vec F S1 .f32 := iblk m c 1 t
def gB (c : Dev nD) (t : Fin cfg0.N) : Vec F S256x3456 .bf16 := iblk m c 2 t
def dyB (c : Dev nD) (t : Fin cfg0.N) : Vec F S1536x384 .bf16 := iblk m c 3 t
def xB (c : Dev nD) (t : Fin cfg0.N) : Vec F S1536x256 .bf16 := iblk m c 4 t

/-- The rotation, as the first step builds it. -/
def rpF (c : Dev nD) : Vec F S256x256 .bf16 := rpM (fun k => sgB m c (pt 0) (ix1 k))

/-- The block maxima, as the first six steps leave them. -/
def adyF (c : Dev nD) : Vec F S96x3456 .f32 := fun y => amaxB (rpF m c) (gB m c (pt ((y 0).val / 16))) ⟨(y 0).val % 16, Nat.mod_lt _ (by decide)⟩ (y 1)

/-- The gradient turned, as the nine steps of phase B leave it. -/
def dyF (c : Dev nD) : Vec F S3456x1536 .bf16 := fun y => dyB m c (pt (6 + (y 0).val / 384)) (ix2 (y 1) ⟨(y 0).val % 384, Nat.mod_lt _ (by decide)⟩)

/-- The pair of scales, as the first step of phase B leaves it. -/
def stF (c : Dev nD) : Vec F S2 .f32 := pair (xsB m c (pt 6) (ix1 0)) (k0_pay99 (adyF m c))

/-- The turned block of the activations of step `k`. -/
def xF (c : Dev nD) (k : ℕ) : Vec F S256x1536 .bf16 := xT (xB m c (pt k))

/-- The block of the product that step `t` of phase C leaves. -/
def dwB (c : Dev nD) (t : ℕ) : Vec F S3456x256 .f32 := outv (k0_pay51 (stF m c (ix1 1)) (stF m c (ix1 0))) (xF m c (t - 1)) (dyF m c)

/-- The block of the block scales that step `t` leaves or keeps. -/
def sbB (c : Dev nD) (t : ℕ) : Vec F S96x384 .fp8e4m3 := k0_pay34 (colsA (qn t) (adyF m c)) (k0_pay99 (adyF m c))

/-- The gradient's scale. -/
def tsB (c : Dev nD) : Vec F S1 .f32 := fun _ => k0_pay99 (adyF m c)

/-- What the six scratch buffers hold before point `n`. -/
structure Inv (c : Dev nD) (n : ℕ) (X9 : Vec F S96x3456 .f32) (X10 : Vec F S3456x1536 .bf16) (X11 X12 : Vec F S256x1536 .bf16) (X13 : Vec F S256x256 .bf16) (X14 : Vec F S2 .f32) : Prop where
  maxima : ∀ y : S96x3456.Idx, (y 0).val < 16 * min n 6 → X9 y = adyF m c y
  rows : ∀ y : S3456x1536.Idx, (y 0).val < 384 * min (n - 6) 9 → X10 y = dyF m c y
  even : 16 ≤ n → n ≤ 35 → n % 2 = 0 → X11 = xF m c (n - 1)
  odd : 16 ≤ n → n ≤ 35 → n % 2 = 1 → X12 = xF m c (n - 1)
  rot : 1 ≤ n → X13 = rpF m c
  scales : 7 ≤ n → X14 = stF m c

def PhiN (c : Dev nD) (n : ℕ) : sProp 𝕄 :=
  iprop((∃ X9 X10 X11 X12 X13 X14, ⌜Inv m c n X9 X10 X11 X12 X13 X14⌝ ∗ owns (c : Thread nD τ) (Memref.whole cc0_scratch0) fullShare X9 ∗ owns (c : Thread nD τ) (Memref.whole cc0_scratch1) fullShare X10
    ∗ owns (c : Thread nD τ) (Memref.whole cc0_scratch2) fullShare X11 ∗ owns (c : Thread nD τ) (Memref.whole cc0_scratch3) fullShare X12
    ∗ owns (c : Thread nD τ) (Memref.whole cc0_scratch4) fullShare X13 ∗ owns (c : Thread nD τ) (Memref.whole cc0_scratch5) fullShare X14) ∗ ∃ r, prngReg c r)

/-- The proof data: inputs at their blocks, the results at their values, the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dwB m c t.val
    | ⟨6, _⟩ => sbB m c t.val
    | ⟨7, _⟩ => tsB m c
    | ⟨_ + 8, h⟩ => absurd h (Nat.not_lt.2 (Nat.le_add_left _ _))
  Φ t := PhiN m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dwB m c t.val := by dsimp only [dats]
theorem after0_6 (c : Dev nD) (t : Fin cfg0.N) : (dats m 0 c).after 6 t = sbB m c t.val := by dsimp only [dats]
theorem after0_7 (c : Dev nD) (t : Fin cfg0.N) : (dats m 0 c).after 7 t = tsB m c := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

theorem before0_6 (c : Dev nD) (t : Fin cfg0.N) (h : 15 ≤ t.val) (d) : (dats m 0 c).before 6 t d = sbB m c t.val := by
  have ht := lt36 t
  rw [(dats m 0 c).before_out_traj 6 rfl (fun _ _ => rfl) (fun s hs _ hf => ?_) t.val t rfl d, fresh6 _ (Nat.le_of_lt t.isLt), if_neg (by simp; omega), after0_6]
  · have e : qn (t.val - 1) = qn t.val := Fin.ext (by show min (t.val - 1 - 6) 8 = min (t.val - 6) 8; omega)
    unfold sbB
    rw [e]
  · rw [fresh6 _ (Nat.le_of_lt s.isLt)] at hf
    have hs' : 15 ≤ s.val := by simp at hf; omega
    rw [after0_6, after0_6]
    have e : qn (s.val - 1) = qn s.val := Fin.ext (by show min (s.val - 1 - 6) 8 = min (s.val - 6) 8; omega)
    unfold sbB
    rw [e]
theorem before0_7 (c : Dev nD) (t : Fin cfg0.N) (h : 7 ≤ t.val) (d) : (dats m 0 c).before 7 t d = tsB m c := by
  have ht := lt36 t
  rw [(dats m 0 c).before_out_traj 7 rfl (fun _ _ => rfl) (fun s hs _ hf => ?_) t.val t rfl d, fresh7 _ (Nat.le_of_lt t.isLt), if_neg (by simp; omega), after0_7]
  rw [after0_7, after0_7]

/-! ## The steps keep the invariant -/

theorem pt_val (t : Fin cfg0.N) : pt t.val = t := Fin.ext (Nat.min_eq_left (Nat.le_of_lt_succ (lt36 t)))

theorem maxima_step (c : Dev nD) (t : Fin cfg0.N) (h : t.val < 6) (X9 : Vec F S96x3456 .f32) (R : Vec F S256x256 .bf16) (hR : R = rpF m c)
    (I : ∀ y : S96x3456.Idx, (y 0).val < 16 * min t.val 6 → X9 y = adyF m c y) (y : S96x3456.Idx) (hy : (y 0).val < 16 * min (t.val + 1) 6) :
    putA ⟨t.val, h⟩ (amaxB R (gB m c t)) X9 y = adyF m c y := by
  subst hR
  by_cases hb : 16 * t.val ≤ (y 0).val ∧ (y 0).val < 16 * t.val + 16
  · unfold putA adyF
    rw [dif_pos (show _ ∧ _ from hb)]
    have hq : (y 0).val / 16 = t.val := by omega
    have hr : (y 0).val % 16 = (y 0).val - 16 * t.val := by omega
    have hp : pt ((y 0).val / 16) = t := by rw [hq, pt_val]
    rw [hp]
    exact congrArg (fun a => amaxB (rpF m c) (gB m c t) a (y 1)) (Fin.ext hr.symm)
  · rw [putA_of_out _ _ _ _ hb]
    exact I y (by omega)

theorem inv_start (c : Dev nD) (t : Fin cfg0.N) (h : t.val = 0) (h' : t.val < 6) (X9 X10 X11 X12 X13 X14) (I : Inv m c t.val X9 X10 X11 X12 X13 X14) :
    Inv m c (t.val + 1) (putA ⟨t.val, h'⟩ (amaxB (rpM (fun k => sgB m c t (ix1 k))) (gB m c t)) X9) X10 X11 X12 (rpM (fun k => sgB m c t (ix1 k))) X14 where
  maxima y hy := maxima_step m c t h' X9 _ (by rw [show t = pt 0 from Fin.ext h]; rfl) I.maxima y hy
  rows y hy := by omega
  even h _ _ := by omega
  odd h _ _ := by omega
  rot _ := by rw [show t = pt 0 from Fin.ext h]; rfl
  scales h := by omega

theorem inv_amax (c : Dev nD) (t : Fin cfg0.N) (h : 1 ≤ t.val) (h' : t.val < 6) (X9 X10 X11 X12 X13 X14) (I : Inv m c t.val X9 X10 X11 X12 X13 X14) :
    Inv m c (t.val + 1) (putA ⟨t.val, h'⟩ (amaxB X13 (gB m c t)) X9) X10 X11 X12 X13 X14 where
  maxima y hy := maxima_step m c t h' X9 _ (I.rot h) I.maxima y hy
  rows y hy := by omega
  even h _ _ := by omega
  odd h _ _ := by omega
  rot _ := I.rot h
  scales h := by omega

theorem rows_step (c : Dev nD) (t : Fin cfg0.N) (h : 6 ≤ t.val) (h' : t.val < 15) (X6 : Vec F S3456x1536 .bf16)
    (I : ∀ y : S3456x1536.Idx, (y 0).val < 384 * min (t.val - 6) 9 → X6 y = dyF m c y) (y : S3456x1536.Idx) (hy : (y 0).val < 384 * min (t.val + 1 - 6) 9) :
    putRows (384 * (qn t.val).val) (dyB m c t) X6 y = dyF m c y := by
  rw [qn_val h']
  by_cases hb : 384 * (t.val - 6) ≤ (y 0).val ∧ (y 0).val < 384 * (t.val - 6) + 384
  · unfold putRows dyF
    rw [dif_pos hb]
    have hq : (y 0).val / 384 = t.val - 6 := by omega
    have hr : (y 0).val % 384 = (y 0).val - 384 * (t.val - 6) := by omega
    have hp : pt (6 + (y 0).val / 384) = t := Fin.ext (by show min _ 35 = _; omega)
    rw [hp]
    exact congrArg (dyB m c t) (congrArg (ix2 (y 1)) (Fin.ext hr.symm))
  · rw [putRows_of_out _ _ _ _ hb]
    exact I y (by omega)

theorem full_maxima (c : Dev nD) (n : ℕ) (h : 6 ≤ n) (X9 X10 X11 X12 X13 X14) (I : Inv m c n X9 X10 X11 X12 X13 X14) : X9 = adyF m c :=
  funext fun y => I.maxima y (by have : (y 0).val < 96 := (y 0).isLt; omega)

theorem inv_rows (c : Dev nD) (t : Fin cfg0.N) (h : 7 ≤ t.val) (h' : t.val < 15) (X9 X10 X11 X12 X13 X14) (I : Inv m c t.val X9 X10 X11 X12 X13 X14) :
    Inv m c (t.val + 1) X9 (putRows (384 * (qn t.val).val) (dyB m c t) X10) X11 X12 X13 X14 where
  maxima y hy := I.maxima y (by omega)
  rows y hy := rows_step m c t (by omega) h' X10 I.rows y hy
  even _ _ _ := by omega
  odd _ _ _ := by omega
  rot _ := I.rot (by omega)
  scales _ := I.scales (by omega)

theorem inv_first (c : Dev nD) (t : Fin cfg0.N) (h : t.val = 6) (X9 X10 X11 X12 X13 X14) (I : Inv m c t.val X9 X10 X11 X12 X13 X14) :
    Inv m c (t.val + 1) X9 (putRows (384 * (qn t.val).val) (dyB m c t) X10) X11 X12 X13 (pair (xsB m c t (ix1 0)) (k0_pay99 X9)) where
  maxima y hy := I.maxima y (by omega)
  rows y hy := rows_step m c t (by omega) (by omega) X10 I.rows y hy
  even _ _ _ := by omega
  odd _ _ _ := by omega
  rot _ := I.rot (by omega)
  scales _ := by rw [show t = pt 6 from Fin.ext h, full_maxima m c t.val (by omega) X9 X10 X11 X12 X13 X14 I]; rfl

theorem inv_turn (c : Dev nD) (t : Fin cfg0.N) (h : t.val = 15) (X9 X10 X11 X12 X13 X14) (I : Inv m c t.val X9 X10 X11 X12 X13 X14) :
    Inv m c (t.val + 1) X9 X10 (xT (xB m c t)) X12 X13 X14 where
  maxima y hy := I.maxima y (by omega)
  rows y hy := I.rows y (by omega)
  even _ _ _ := by unfold xF; rw [Nat.add_sub_cancel, pt_val]
  odd _ _ _ := by omega
  rot _ := I.rot (by omega)
  scales _ := I.scales (by omega)

theorem inv_even (c : Dev nD) (t : Fin cfg0.N) (h : 16 ≤ t.val) (h2 : t.val % 2 = 0) (X9 X10 X11 X12 X13 X14) (I : Inv m c t.val X9 X10 X11 X12 X13 X14) :
    Inv m c (t.val + 1) X9 X10 X11 (xT (xB m c t)) X13 X14 where
  maxima y hy := I.maxima y (by omega)
  rows y hy := I.rows y (by omega)
  even _ _ _ := by omega
  odd _ _ _ := by unfold xF; rw [Nat.add_sub_cancel, pt_val]
  rot _ := I.rot (by omega)
  scales _ := I.scales (by omega)

theorem inv_odd (c : Dev nD) (t : Fin cfg0.N) (h : 16 ≤ t.val) (h2 : t.val % 2 = 1) (X9 X10 X11 X12 X13 X14) (I : Inv m c t.val X9 X10 X11 X12 X13 X14) :
    Inv m c (t.val + 1) X9 X10 (xT (xB m c t)) X12 X13 X14 where
  maxima y hy := I.maxima y (by omega)
  rows y hy := I.rows y (by omega)
  even _ _ _ := by unfold xF; rw [Nat.add_sub_cancel, pt_val]
  odd _ _ _ := by omega
  rot _ := I.rot (by omega)
  scales _ := I.scales (by omega)

theorem inv_last (c : Dev nD) (t : Fin cfg0.N) (h : t.val = 35) (X9 X10 X11 X12 X13 X14) (I : Inv m c t.val X9 X10 X11 X12 X13 X14) :
    Inv m c (t.val + 1) X9 X10 X11 X12 X13 X14 where
  maxima y hy := I.maxima y (by omega)
  rows y hy := I.rows y (by omega)
  even _ _ _ := by omega
  odd _ _ _ := by omega
  rot _ := I.rot (by omega)
  scales _ := I.scales (by omega)

theorem full_rows (c : Dev nD) (n : ℕ) (h : 15 ≤ n) (X9 X10 X11 X12 X13 X14) (I : Inv m c n X9 X10 X11 X12 X13 X14) : X10 = dyF m c :=
  funext fun y => I.rows y (by have : (y 0).val < 3456 := (y 0).isLt; omega)

/-! ## The body at a point -/

/-- What the body is handed at point `t`; what it leaves. -/
def bodyPre (c : Dev nD) (t : Fin cfg0.N) : sProp 𝕄 :=
  iprop(PhiN m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop(PhiN m c (t.val + 1) ∗ (dats m 0 c).owesAt () t.castSucc ∗ owns (c : Thread nD τ) (st0_0 t) fullShare (sgB m c t) ∗ owns (c : Thread nD τ) (st0_1 t) fullShare (xsB m c t) ∗ owns (c : Thread nD τ) (st0_2 t) fullShare (gB m c t) ∗ owns (c : Thread nD τ) (st0_3 t) fullShare (dyB m c t) ∗ owns (c : Thread nD τ) (st0_4 t) fullShare (xB m c t) ∗ (dats m 0 c).leavesExact 5 t ∗ (dats m 0 c).leavesExact 6 t ∗ (dats m 0 c).leavesExact 7 t)

theorem leaves5_idle (c : Dev nD) (t : Fin cfg0.N) (h : t.val < 16) (d) :
    owns (c : Thread nD τ) (st0_5 t) fullShare ((dats m 0 c).before 5 t d) ⊢ (dats m 0 c).leavesExact 5 t := by
  rw [(dats m 0 c).leavesExact_idle 5 t ((idle5_iff t).mpr h) (by have := (flush5_iff t).not.mpr (by omega); simpa using this)]
  iintro H; iexists d; iexact H

theorem leaves5_live (c : Dev nD) (t : Fin cfg0.N) (h : 16 ≤ t.val) :
    owns (c : Thread nD τ) (st0_5 t) fullShare (dwB m c t.val) ⊢ (dats m 0 c).leavesExact 5 t := by
  have hi : cfg0.idle 5 (cfg0.grid.coords t) = false := Bool.eq_false_iff.mpr ((idle5_iff t).not.mpr (by omega))
  rw [← after0_5]; unfold Dat.leavesExact; rw [hi]

theorem leaves6_idle (c : Dev nD) (t : Fin cfg0.N) (h : (t.val < 6 ∨ 15 ≤ t.val)) (d) :
    owns (c : Thread nD τ) (st0_6 t) fullShare ((dats m 0 c).before 6 t d) ⊢ (dats m 0 c).leavesExact 6 t := by
  have ht := lt36 t
  have hi : cfg0.idle 6 (cfg0.grid.coords t) = true := (idle6_iff t).mpr h
  by_cases h35 : t.val = 35
  · have hf : (cfg0.win 6).flush t = true := (flush6_iff t).mpr (by omega)
    rw [before0_6 m c t (by omega) d, ← after0_6 m c t]; unfold Dat.leavesExact; rw [hi, hf]
  · rw [(dats m 0 c).leavesExact_idle 6 t hi (by have := (flush6_iff t).not.mpr (by omega); simpa using this)]
    iintro H; iexists d; iexact H

theorem leaves6_live (c : Dev nD) (t : Fin cfg0.N) (h : (6 ≤ t.val ∧ t.val < 15)) :
    owns (c : Thread nD τ) (st0_6 t) fullShare (sbB m c t.val) ⊢ (dats m 0 c).leavesExact 6 t := by
  have hi : cfg0.idle 6 (cfg0.grid.coords t) = false := Bool.eq_false_iff.mpr ((idle6_iff t).not.mpr (by omega))
  rw [← after0_6 m c t]; unfold Dat.leavesExact; rw [hi]

theorem leaves7_idle (c : Dev nD) (t : Fin cfg0.N) (h : t.val ≠ 6) (d) :
    owns (c : Thread nD τ) (st0_7 t) fullShare ((dats m 0 c).before 7 t d) ⊢ (dats m 0 c).leavesExact 7 t := by
  have ht := lt36 t
  have hi : cfg0.idle 7 (cfg0.grid.coords t) = true := (idle7_iff t).mpr h
  by_cases h35 : t.val = 35
  · have hf : (cfg0.win 7).flush t = true := (flush7_iff t).mpr (by omega)
    rw [before0_7 m c t (by omega) d, ← after0_7 m c t]; unfold Dat.leavesExact; rw [hi, hf]
  · rw [(dats m 0 c).leavesExact_idle 7 t hi (by have := (flush7_iff t).not.mpr (by omega); simpa using this)]
    iintro H; iexists d; iexact H

theorem leaves7_live (c : Dev nD) (t : Fin cfg0.N) (h : t.val = 6) :
    owns (c : Thread nD τ) (st0_7 t) fullShare (tsB m c) ⊢ (dats m 0 c).leavesExact 7 t := by
  have hi : cfg0.idle 7 (cfg0.grid.coords t) = false := Bool.eq_false_iff.mpr ((idle7_iff t).not.mpr (by omega))
  rw [← after0_7 m c t]; unfold Dat.leavesExact; rw [hi]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  conv_lhs => unfold PhiN
  have ht := lt36 t
  iintro ⟨⟨⟨%X9, %X10, %X11, %X12, %X13, %X14, %hI, S9, S10, S11, S12, S13, S14⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hA : t.val = 0
  · iapply (body_start c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) ⟨t.val, by omega⟩ (off1_eq t (by omega)) (off2_eq t (by omega)) (off3_eq t (by omega)) (off4_eq t (by omega)) (off5_eq t (by omega)) (off6_eq t (by omega)) (off7_eq t (by omega)) (off8_eq t (by omega)) (off9_eq t (by omega)) (off10_eq t (by omega)) (off11_eq t (by omega)) (off12_eq t (by omega)) (off13_eq t (by omega)) (off14_eq t (by omega)) _ _ _ _ _ _ _ _ _ _ _ _ _ _ _ _ _ _ _ _ _ _ _ _ _ _ _ _ (sgB m c t) (gB m c t) X9)
    isplitl [H0]; · iexact H0
    isplitl [H2]; · iexact H2
    isplitl [S9]; · iexact S9
    isplitl [S13]; · iexists _; iexact S13
    iintro ⟨H0, H2, S9, S13⟩
    unfold PhiN
    isplitl [S9 S10 S11 S12 S13 S14 Hp]
    · isplitr [Hp]; swap; · iexact Hp
      iexists _; iexists _; iexists _; iexists _; iexists _; iexists _
      isplitr; · ipureintro; exact inv_start m c t hA (by omega) X9 X10 X11 X12 X13 X14 hI
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply (leaves5_idle m c t (by omega) d5); iexact H5
    isplitl [H6]; · iapply (leaves6_idle m c t (by omega) d6); iexact H6
    iapply (leaves7_idle m c t (by omega) d7); iexact H7
  by_cases hA' : t.val < 6
  · iapply (body_amax c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) ⟨t.val, by omega⟩ (off1_eq t (by omega)) (off2_eq t (by omega)) (off3_eq t (by omega)) (off4_eq t (by omega)) (off5_eq t (by omega)) (off6_eq t (by omega)) (off7_eq t (by omega)) (off8_eq t (by omega)) (off9_eq t (by omega)) (off10_eq t (by omega)) (off11_eq t (by omega)) (off12_eq t (by omega)) (off13_eq t (by omega)) (off14_eq t (by omega)) _ _ _ _ _ _ _ _ _ _ _ _ _ _ _ _ _ _ _ _ _ _ _ _ _ _ _ _ (gB m c t) X9 X13)
    isplitl [H2]; · iexact H2
    isplitl [S9]; · iexact S9
    isplitl [S13]; · iexact S13
    iintro ⟨H2, S9, S13⟩
    unfold PhiN
    isplitl [S9 S10 S11 S12 S13 S14 Hp]
    · isplitr [Hp]; swap; · iexact Hp
      iexists _; iexists _; iexists _; iexists _; iexists _; iexists _
      isplitr; · ipureintro; exact inv_amax m c t (by omega) (by omega) X9 X10 X11 X12 X13 X14 hI
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply (leaves5_idle m c t (by omega) d5); iexact H5
    isplitl [H6]; · iapply (leaves6_idle m c t (by omega) d6); iexact H6
    iapply (leaves7_idle m c t (by omega) d7); iexact H7
  have e9 := full_maxima m c t.val (by omega) X9 X10 X11 X12 X13 X14 hI
  by_cases hB : t.val = 6
  · have hI' := inv_first m c t hB X9 X10 X11 X12 X13 X14 hI
    have l6 := leaves6_live m c t (by omega)
    have l7 := leaves7_live m c t hB
    unfold sbB at l6
    unfold tsB at l7
    rw [← e9] at l6 l7
    iapply (body_first c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) (qn t.val) (off15_eq t (by omega) (by omega)) (off16_eq t (by omega) (by omega)) (off17_eq t (by omega) (by omega)) (off18_eq t (by omega) (by omega)) (off19_eq t (by omega) (by omega)) (off20_eq t (by omega) (by omega)) (off21_eq t (by omega) (by omega)) _ _ _ _ _ _ _ _ _ _ _ _ _ _ _ _ _ _ _ _ _ _ _ _ _ _ _ _ (xsB m c t) (dyB m c t) X9 X10)
    isplitl [H1]; · iexact H1
    isplitl [H3]; · iexact H3
    isplitl [H6]; · iexists _; iexact H6
    isplitl [H7]; · iexists _; iexact H7
    isplitl [S9]; · iexact S9
    isplitl [S10]; · iexact S10
    isplitl [S14]; · iexists _; iexact S14
    iintro ⟨H1, H3, H6, H7, S9, S10, S14⟩
    unfold PhiN
    isplitl [S9 S10 S11 S12 S13 S14 Hp]
    · isplitr [Hp]; swap; · iexact Hp
      iexists _; iexists _; iexists _; iexists _; iexists _; iexists _
      isplitr; · ipureintro; exact hI'
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply (leaves5_idle m c t (by omega) d5); iexact H5
    isplitl [H6]; · iapply l6; iexact H6
    iapply l7; iexact H7
  by_cases hC : t.val < 15
  · have hI' := inv_rows m c t (by omega) hC X9 X10 X11 X12 X13 X14 hI
    have l6 := leaves6_live m c t (by omega)
    have e14 : X14 (ix1 1) = k0_pay99 (adyF m c) := by rw [hI.scales (by omega)]; rfl
    unfold sbB at l6
    rw [← e14, ← e9] at l6
    iapply (body_rows c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) (qn t.val) (off15_eq t (by omega) (by omega)) (off16_eq t (by omega) (by omega)) (off17_eq t (by omega) (by omega)) (off18_eq t (by omega) (by omega)) (off19_eq t (by omega) (by omega)) (off20_eq t (by omega) (by omega)) (off21_eq t (by omega) (by omega)) _ _ _ _ _ _ _ _ _ _ _ _ _ _ _ _ _ _ _ _ _ _ _ _ _ _ _ _ (dyB m c t) X9 X10 X14)
    isplitl [H3]; · iexact H3
    isplitl [H6]; · iexists _; iexact H6
    isplitl [S9]; · iexact S9
    isplitl [S10]; · iexact S10
    isplitl [S14]; · iexact S14
    iintro ⟨H3, H6, S9, S10, S14⟩
    unfold PhiN
    isplitl [S9 S10 S11 S12 S13 S14 Hp]
    · isplitr [Hp]; swap; · iexact Hp
      iexists _; iexists _; iexists _; iexists _; iexists _; iexists _
      isplitr; · ipureintro; exact hI'
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply (leaves5_idle m c t (by omega) d5); iexact H5
    isplitl [H6]; · iapply l6; iexact H6
    iapply (leaves7_idle m c t (by omega) d7); iexact H7
  by_cases hD : t.val = 15
  · iapply (body_turn c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) _ _ _ _ _ _ _ _ _ _ _ _ _ _ _ _ _ _ _ _ _ _ _ _ _ _ _ _ (xB m c t))
    isplitl [H4]; · iexact H4
    isplitl [S11]; · iexists _; iexact S11
    iintro ⟨H4, S11⟩
    unfold PhiN
    isplitl [S9 S10 S11 S12 S13 S14 Hp]
    · isplitr [Hp]; swap; · iexact Hp
      iexists _; iexists _; iexists _; iexists _; iexists _; iexists _
      isplitr; · ipureintro; exact inv_turn m c t hD X9 X10 X11 X12 X13 X14 hI
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply (leaves5_idle m c t (by omega) d5); iexact H5
    isplitl [H6]; · iapply (leaves6_idle m c t (by omega) d6); iexact H6
    iapply (leaves7_idle m c t (by omega) d7); iexact H7
  have e10 := full_rows m c t.val (by omega) X9 X10 X11 X12 X13 X14 hI
  have e14 := hI.scales (by omega)
  have l5 := leaves5_live m c t (by omega)
  unfold dwB at l5
  rw [← e10, ← e14] at l5
  by_cases hE : t.val % 2 = 0
  · have hI' := inv_even m c t (by omega) hE X9 X10 X11 X12 X13 X14 hI
    rw [← hI.even (by omega) (by omega) hE] at l5
    iapply (body_even c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) _ _ _ _ _ _ _ _ _ _ _ _ _ _ _ _ _ _ _ _ _ _ _ _ _ _ _ _ (xB m c t) X10 X11 X14)
    isplitl [H4]; · iexact H4
    isplitl [H5]; · iexists _; iexact H5
    isplitl [S10]; · iexact S10
    isplitl [S11]; · iexact S11
    isplitl [S12]; · iexists _; iexact S12
    isplitl [S14]; · iexact S14
    iintro ⟨H4, H5, S10, S11, S12, S14⟩
    unfold PhiN
    isplitl [S9 S10 S11 S12 S13 S14 Hp]
    · isplitr [Hp]; swap; · iexact Hp
      iexists _; iexists _; iexists _; iexists _; iexists _; iexists _
      isplitr; · ipureintro; exact hI'
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply l5; iexact H5
    isplitl [H6]; · iapply (leaves6_idle m c t (by omega) d6); iexact H6
    iapply (leaves7_idle m c t (by omega) d7); iexact H7
  by_cases hF : t.val < 35
  · have hI' := inv_odd m c t (by omega) (by omega) X9 X10 X11 X12 X13 X14 hI
    rw [← hI.odd (by omega) (by omega) (by omega)] at l5
    iapply (body_odd c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) _ _ _ _ _ _ _ _ _ _ _ _ _ _ _ _ _ _ _ _ _ _ _ _ _ _ _ _ (xB m c t) X10 X12 X14)
    isplitl [H4]; · iexact H4
    isplitl [H5]; · iexists _; iexact H5
    isplitl [S10]; · iexact S10
    isplitl [S11]; · iexists _; iexact S11
    isplitl [S12]; · iexact S12
    isplitl [S14]; · iexact S14
    iintro ⟨H4, H5, S10, S11, S12, S14⟩
    unfold PhiN
    isplitl [S9 S10 S11 S12 S13 S14 Hp]
    · isplitr [Hp]; swap; · iexact Hp
      iexists _; iexists _; iexists _; iexists _; iexists _; iexists _
      isplitr; · ipureintro; exact hI'
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply l5; iexact H5
    isplitl [H6]; · iapply (leaves6_idle m c t (by omega) d6); iexact H6
    iapply (leaves7_idle m c t (by omega) d7); iexact H7
  · have hI' := inv_last m c t (by omega) X9 X10 X11 X12 X13 X14 hI
    rw [← hI.odd (by omega) (by omega) (by omega)] at l5
    iapply (body_last c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) _ _ _ _ _ _ _ _ _ _ _ _ _ _ _ _ _ _ _ _ _ _ _ _ _ _ _ _ X10 X12 X14)
    isplitl [H5]; · iexists _; iexact H5
    isplitl [S10]; · iexact S10
    isplitl [S12]; · iexact S12
    isplitl [S14]; · iexact S14
    iintro ⟨H5, S10, S12, S14⟩
    unfold PhiN
    isplitl [S9 S10 S11 S12 S13 S14 Hp]
    · isplitr [Hp]; swap; · iexact Hp
      iexists _; iexists _; iexists _; iexists _; iexists _; iexists _
      isplitr; · ipureintro; exact hI'
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply l5; iexact H5
    isplitl [H6]; · iapply (leaves6_idle m c t (by omega) d6); iexact H6
    iapply (leaves7_idle m c t (by omega) d7); iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]; exact triple_restated (sound_body m c t) rfl .rfl fun _ => .rfl

theorem hin (c : Dev nD) : (Pipeline.ΦA spec0 c : sProp 𝕄) ⊢ (dats m 0 c).Φ 0 := by
  show _ ⊢ PhiN m c 0
  unfold Pipeline.ΦA PhiN
  rw [scopedRest0_eq]
  simp only [owns_whole]
  iintro ⟨⟨⟨%f1, H1⟩, ⟨%f2, H2⟩, ⟨%f3, H3⟩, ⟨%f4, H4⟩, ⟨%f5, H5⟩, ⟨%f6, H6⟩⟩, Hp⟩
  isplitr [Hp]; swap; · iexact Hp
  iexists f1; iexists f2; iexists f3; iexists f4; iexists f5; iexists f6
  isplitr
  · ipureintro
    exact ⟨fun y hy => by omega, fun y hy => by omega, fun h _ _ => by omega, fun h _ _ => by omega, fun h => by omega, fun h => by omega⟩
  isplitl [H1]; · iexact H1
  isplitl [H2]; · iexact H2
  isplitl [H3]; · iexact H3
  isplitl [H4]; · iexact H4
  isplitl [H5]; · iexact H5
  iexact H6

theorem hout (c : Dev nD) : (dats m 0 c).Φ (Fin.last cfg0.N) ⊢ (Pipeline.ΦA spec0 c : sProp 𝕄) := by
  show PhiN m c cfg0.N ⊢ _
  unfold Pipeline.ΦA PhiN
  rw [scopedRest0_eq]
  simp only [owns_whole]
  iintro ⟨⟨%X1, %X2, %X3, %X4, %X5, %X6, -, H1, H2, H3, H4, H5, H6⟩, Hp⟩
  isplitr [Hp]; swap; · iexact Hp
  isplitl [H1]; · iexists X1; iexact H1
  isplitl [H2]; · iexists X2; iexact H2
  isplitl [H3]; · iexists X3; iexact H3
  isplitl [H4]; · iexists X4; iexact H4
  isplitl [H5]; · iexists X5; iexact H5
  iexists X6; iexact H6

set_option backward.isDefEq.respectTransparency.types false in
/-- The launch: every array at what the steps leave it, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))
end Cert.Proof.K
-- ==== Proof.Pieces.lean ====
module
public import proofs.«01_k».proof.Proof.Gen.KernelIdeal.Frame
public import proofs.«01_k».proof.Proof.Gen.KernelIdeal.Skeleton
public import Idealize.ShloMosaic.Lib.Claim
public import Idealize.ShloMosaic.Lib.ValueIdx
public import Idealize.ShloMosaic.Lib.ValueLayout
public import Idealize.ShloMosaic.Lib.Pipeline.Value
@[expose] public section
set_option maxRecDepth 16384
noncomputable section
namespace Cert.Proof.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
variable {F : FTy → Type} [FloatOps F] [Named F]
local notation "𝕄" => MT nD τ sig Unit (Elt F) ℕ (UR sig nD τ) ℕ

/-- A token-by-column block turned to column-by-token. -/
def xT (x4 : Vec F S1536x256 .bf16) : Vec F S256x1536 .bf16 := fun y => x4 (ix2 (y 1) (y 0))

/-- Rows `b .. b+383` of the held gradient replaced by a turned block of 384 columns. -/
def putRows (b : ℕ) (x3 : Vec F S1536x384 .bf16) (x6 : Vec F S3456x1536 .bf16) : Vec F S3456x1536 .bf16 := fun y =>
  if h : b ≤ (y 0).val ∧ (y 0).val < b + 384 then x3 (ix2 (y 1) ⟨(y 0).val - b, by omega⟩) else x6 y

/-- The scales' pair after both stores. -/
def pair (a b : F .f32) : Vec F S2 .f32 := fun y => if (y 0).val = 0 then a else b

/-- The eight row chunks of the product of the held gradient with a turned block, each times the scale. -/
def outv (s : F .f32) (xh : Vec F S256x1536 .bf16) (dy : Vec F S3456x1536 .bf16) : Vec F S3456x256 .f32 :=
  View.canon (Val := Elt F) (s := S3456x256) (e := .f32)
    [⟨Rect.unit ![3024, 0] S432x256.size inb_S3456x256_S432x256_3024_0, k0_pay9 s xh (View.ld dy (Rect.unit (s := S3456x1536) ![3024, 0] S432x1536.size inb_S3456x1536_S432x1536_3024_0))⟩,
     ⟨Rect.unit ![2592, 0] S432x256.size inb_S3456x256_S432x256_2592_0, k0_pay9 s xh (View.ld dy (Rect.unit (s := S3456x1536) ![2592, 0] S432x1536.size inb_S3456x1536_S432x1536_2592_0))⟩,
     ⟨Rect.unit ![2160, 0] S432x256.size inb_S3456x256_S432x256_2160_0, k0_pay9 s xh (View.ld dy (Rect.unit (s := S3456x1536) ![2160, 0] S432x1536.size inb_S3456x1536_S432x1536_2160_0))⟩,
     ⟨Rect.unit ![1728, 0] S432x256.size inb_S3456x256_S432x256_1728_0, k0_pay9 s xh (View.ld dy (Rect.unit (s := S3456x1536) ![1728, 0] S432x1536.size inb_S3456x1536_S432x1536_1728_0))⟩,
     ⟨Rect.unit ![1296, 0] S432x256.size inb_S3456x256_S432x256_1296_0, k0_pay9 s xh (View.ld dy (Rect.unit (s := S3456x1536) ![1296, 0] S432x1536.size inb_S3456x1536_S432x1536_1296_0))⟩,
     ⟨Rect.unit ![864, 0] S432x256.size inb_S3456x256_S432x256_864_0, k0_pay9 s xh (View.ld dy (Rect.unit (s := S3456x1536) ![864, 0] S432x1536.size inb_S3456x1536_S432x1536_864_0))⟩,
     ⟨Rect.unit ![432, 0] S432x256.size inb_S3456x256_S432x256_432_0, k0_pay9 s xh (View.ld dy (Rect.unit (s := S3456x1536) ![432, 0] S432x1536.size inb_S3456x1536_S432x1536_432_0))⟩,
     ⟨Rect.unit ![0, 0] S432x256.size inb_S3456x256_S432x256_0_0, k0_pay9 s xh (View.ld dy (Rect.unit (s := S3456x1536) ![0, 0] S432x1536.size inb_S3456x1536_S432x1536_0_0))⟩]

theorem fill_piece (x4 : Vec F S1536x256 .bf16) (o : ℕ) (hi : ∀ a, (![o, 0] : Fin 2 → ℕ) a + S128x256.size a ≤ S1536x256.size a)
    (ho : ∀ a, (![0, o] : Fin 2 → ℕ) a + S256x128.size a ≤ S256x1536.size a) (x : S256x128.Idx) :
    k0_pay39 (View.ld x4 (Rect.unit (s := S1536x256) ![o, 0] S128x256.size hi)) x
      = xT x4 ((Rect.unit (s := S256x1536) ![0, o] S256x128.size ho).emb x) := by
  obtain ⟨a, b, rfl⟩ : ∃ a b, x = ix2 a b := ⟨x 0, x 1, eq_ix2 x⟩
  unfold k0_pay39
  simp only [shapeCast_self]
  rw [transpose_ix2_apply]
  refine congrArg x4 (funext fun k => Fin.ext ?_)
  fin_cases k
  · rfl
  · show 0 + 1 * a.val = 0 + 1 * a.val
    rfl

theorem rows_piece (x3 : Vec F S1536x384 .bf16) (x6 : Vec F S3456x1536 .bf16) (b o : ℕ) (off : Fin 2 → ℕ) (hoff : off = ![b, o])
    (hi : ∀ a, (![o, 0] : Fin 2 → ℕ) a + S256x384.size a ≤ S1536x384.size a)
    (ho : ∀ a, off a + S384x256.size a ≤ S3456x1536.size a) (x : S384x256.Idx) :
    k0_pay35 (View.ld x3 (Rect.unit (s := S1536x384) ![o, 0] S256x384.size hi)) x
      = putRows b x3 x6 ((Rect.unit (s := S3456x1536) off S384x256.size ho).emb x) := by
  subst hoff
  obtain ⟨a, k, rfl⟩ : ∃ a k, x = ix2 a k := ⟨x 0, x 1, eq_ix2 x⟩
  unfold k0_pay35 putRows
  simp only [shapeCast_self]
  rw [transpose_ix2_apply]
  have ha : a.val < 384 := a.isLt
  have hb : (((Rect.unit (s := S3456x1536) ![b, o] S384x256.size ho).emb (ix2 a k)) 0).val = b + 1 * a.val := rfl
  rw [dif_pos (show _ ∧ _ from ⟨by show b ≤ b + 1 * a.val; omega, by show b + 1 * a.val < b + 384; omega⟩)]
  refine congrArg x3 (funext fun j => Fin.ext ?_)
  fin_cases j
  · rfl
  · show 0 + 1 * a.val = (b + 1 * a.val) - b
    omega

/-- A buffer after a list of writes, read where a piece holds the index, or where nothing was asked to change. -/
theorem read_writes_eq {s : Shape} {e : EltTy} {κ : Kind} {sp : Space} (v : View sig κ sp s e) (f : v.ty.Contents (Elt F)) (G : s.Idx → Elt F e) :
    ∀ L : List (View.Piece (Elt F) s e), (∀ p ∈ L, ∀ x : p.1.shape.Idx, p.2 x = G (p.1.emb x)) → ∀ y : s.Idx,
      ((∃ p ∈ L, y ∈ p.1.set) ∨ G y = v.read (Elt F) f y) → v.read (Elt F) (v.writes (Elt F) f L) y = G y
  | [], _, y, h => by
    rcases h with ⟨p, hp, _⟩ | h
    · exact absurd hp List.not_mem_nil
    · exact h.symm
  | p :: L, hL, y, h => by
    by_cases hy : y ∈ p.1.set
    · obtain ⟨r, w⟩ := p
      obtain ⟨x, rfl⟩ : ∃ x, r.emb x = y := r.exists_idx_of_mem hy
      rw [View.read_writes_cons_emb]
      exact hL _ List.mem_cons_self x
    · have hy' : y ∉ Finset.univ.map p.1.emb := by rwa [Rect.map_emb_univ]
      rw [View.writes_cons, View.read_slice_write_of_not_mem p.1 _ _ _ hy']
      refine read_writes_eq v f G L (fun q hq => hL q (List.mem_cons_of_mem _ hq)) y ?_
      rcases h with ⟨q, hq, hq'⟩ | h
      · rcases List.mem_cons.mp hq with rfl | hq
        · exact absurd hq' hy
        · exact .inl ⟨q, hq, hq'⟩
      · exact .inr h

theorem putRows_of_out (b : ℕ) (x3 : Vec F S1536x384 .bf16) (x6 : Vec F S3456x1536 .bf16) (y : S3456x1536.Idx)
    (h : ¬ (b ≤ (y 0).val ∧ (y 0).val < b + 384)) : putRows b x3 x6 y = x6 y := dif_neg h

theorem mem_rows {b o : ℕ} {off : Fin 2 → ℕ} (hoff : off = ![b, o]) (ho : ∀ a, off a + S384x256.size a ≤ S3456x1536.size a)
    (y : S3456x1536.Idx) (h : b ≤ (y 0).val ∧ (y 0).val < b + 384) (h' : o ≤ (y 1).val ∧ (y 1).val < o + 256) :
    y ∈ (Rect.unit (s := S3456x1536) off S384x256.size ho).set := by
  subst hoff
  rw [Rect.mem_set_unit]
  intro a
  fin_cases a
  · exact h
  · exact h'

theorem lt1536 (y : S3456x1536.Idx) : (y 1).val < 1536 := (y 1).isLt

theorem ld_first1 (x : Vec F S1 .f32) (h : ∀ a, (![0] : Fin 1 → ℕ) a + S1.size a ≤ S1.size a) (k : (Rect.unit (s := S1) ![0] S1.size h).shape.Idx) :
    View.ld x (Rect.unit (s := S1) ![0] S1.size h) k = x (ix1 0) := by
  refine congrArg x (funext fun a => Fin.ext ?_)
  have : ((Rect.unit (s := S1) ![0] S1.size h).idx k a).val < 1 := by fin_cases a; exact ((Rect.unit (s := S1) ![0] S1.size h).idx k 0).isLt
  fin_cases a
  show _ = 0
  exact Nat.lt_one_iff.mp this

theorem ld_first2 (x : Vec F S2 .f32) (o : ℕ) (ho : o < 2) (h : ∀ a, (![o] : Fin 1 → ℕ) a + S1.size a ≤ S2.size a) (k : (Rect.unit (s := S2) ![o] S1.size h).shape.Idx) :
    View.ld x (Rect.unit (s := S2) ![o] S1.size h) k = x (ix1 ⟨o, ho⟩) := by
  refine congrArg x (funext fun a => Fin.ext ?_)
  fin_cases a
  have hk : (k 0).val < 1 := (k 0).isLt
  show o + 1 * (k 0).val = o
  omega

theorem pair_piece (a b w : F .f32) (o : ℕ) (ho : o < 2) (hw : w = if o = 0 then a else b)
    (h : ∀ a, (![o] : Fin 1 → ℕ) a + S1.size a ≤ S2.size a) (k : (Rect.unit (s := S2) ![o] S1.size h).shape.Idx) :
    w = pair a b ((Rect.unit (s := S2) ![o] S1.size h).emb k) := by
  have hk : (k 0).val < 1 := (k 0).isLt
  have e : (((Rect.unit (s := S2) ![o] S1.size h).emb k) 0).val = o := by show o + 1 * (k 0).val = o; omega
  unfold pair
  rw [hw, e]

/-- Chunk `j` of columns of a token block of the gradient; the last, narrower one. -/
def colC (x : Vec F S256x3456 .bf16) (j : Fin 13) : Vec F S256x256 .bf16 := fun y =>
  x (ix2 (y 0) ⟨256 * j.val + (y 1).val, by have := j.isLt; have := (y 1).isLt; change (y 1).val < 256 at this; omega⟩)
def colL (x : Vec F S256x3456 .bf16) : Vec F S256x128 .bf16 := fun y =>
  x (ix2 (y 0) ⟨3328 + (y 1).val, by have := (y 1).isLt; change (y 1).val < 128 at this; omega⟩)

/-- The sixteen rows of block maxima of a token block. -/
def amaxB (rp : Vec F S256x256 .bf16) (x : Vec F S256x3456 .bf16) (a : Fin 16) (c : Fin 3456) : F .f32 :=
  if h : c.val < 3328 then k0_pay19 rp (colC x ⟨c.val / 256, by omega⟩) (ix2 a ⟨c.val % 256, by omega⟩)
  else k0_pay98 rp (colL x) (ix2 a ⟨c.val - 3328, by omega⟩)

theorem lt96 (y : S96x3456.Idx) : (y 0).val < 96 := (y 0).isLt

/-- Rows `16 n .. 16 n + 15` of the block maxima replaced. -/
def putA (n : Fin 6) (am : Fin 16 → Fin 3456 → F .f32) (x : Vec F S96x3456 .f32) : Vec F S96x3456 .f32 := fun y =>
  if h : 16 * n.val ≤ (y 0).val ∧ (y 0).val < 16 * n.val + 16 then am ⟨(y 0).val - 16 * n.val, by omega⟩ (y 1) else x y

theorem putA_of_out (n : Fin 6) (am : Fin 16 → Fin 3456 → F .f32) (x : Vec F S96x3456 .f32) (y : S96x3456.Idx)
    (h : ¬ (16 * n.val ≤ (y 0).val ∧ (y 0).val < 16 * n.val + 16)) : putA n am x y = x y := dif_neg h

theorem amax_piece (n : Fin 6) (rp : Vec F S256x256 .bf16) (x : Vec F S256x3456 .bf16) (x11 : Vec F S96x3456 .f32) (j : Fin 13) (o : ℕ) (hoo : o = 256 * j.val)
    (off : Fin 2 → ℕ) (hoff : off = ![16 * n.val, o]) (hi : ∀ a, (![0, o] : Fin 2 → ℕ) a + S256x256.size a ≤ S256x3456.size a)
    (ho : ∀ a, off a + S16x256.size a ≤ S96x3456.size a) (y : S16x256.Idx) :
    k0_pay19 rp (View.ld x (Rect.unit (s := S256x3456) ![0, o] S256x256.size hi)) y
      = putA n (amaxB rp x) x11 ((Rect.unit (s := S96x3456) off S16x256.size ho).emb y) := by
  subst hoff
  subst hoo
  obtain ⟨a, c, rfl⟩ : ∃ a c, y = ix2 a c := ⟨y 0, y 1, eq_ix2 y⟩
  have hj := j.isLt
  have e0 : View.ld x (Rect.unit (s := S256x3456) ![0, 256 * j.val] S256x256.size hi) = colC x j := by
    funext y
    refine congrArg x (funext fun k => Fin.ext ?_)
    fin_cases k
    · show 0 + 1 * (y 0).val = (y 0).val
      omega
    · show 256 * j.val + 1 * (y 1).val = 256 * j.val + (y 1).val
      omega
  rw [e0]
  unfold putA
  rw [dif_pos (show _ ∧ _ from ⟨by show 16 * n.val ≤ 16 * n.val + 1 * a.val; omega, by show 16 * n.val + 1 * a.val < 16 * n.val + 16; omega⟩)]
  have e1 : (⟨(((Rect.unit (s := S96x3456) ![16 * n.val, 256 * j.val] S16x256.size ho).emb (ix2 a c)) 0).val - 16 * n.val, by show 16 * n.val + 1 * a.val - 16 * n.val < 16; omega⟩ : Fin 16) = a :=
    Fin.ext (by show 16 * n.val + 1 * a.val - 16 * n.val = a.val; omega)
  have e2 : ((Rect.unit (s := S96x3456) ![16 * n.val, 256 * j.val] S16x256.size ho).emb (ix2 a c)) 1 = (⟨256 * j.val + c.val, by omega⟩ : Fin 3456) :=
    Fin.ext (by show 256 * j.val + 1 * c.val = 256 * j.val + c.val; omega)
  refine Eq.trans ?_ (congrArg₂ (amaxB rp x) e1 e2).symm
  unfold amaxB
  rw [dif_pos (show 256 * j.val + c.val < 3328 by omega)]
  have e3 : (⟨(256 * j.val + c.val) / 256, by omega⟩ : Fin 13) = j := Fin.ext (by show (256 * j.val + c.val) / 256 = j.val; omega)
  have e4 : (⟨(256 * j.val + c.val) % 256, by omega⟩ : Fin 256) = c := Fin.ext (by show (256 * j.val + c.val) % 256 = c.val; omega)
  show _ = k0_pay19 rp (colC x (⟨(256 * j.val + c.val) / 256, by omega⟩ : Fin 13)) (ix2 a (⟨(256 * j.val + c.val) % 256, by omega⟩ : Fin 256))
  rw [e3, e4]

theorem amax_last (n : Fin 6) (rp : Vec F S256x256 .bf16) (x : Vec F S256x3456 .bf16) (x11 : Vec F S96x3456 .f32)
    (off : Fin 2 → ℕ) (hoff : off = ![16 * n.val, 3328]) (hi : ∀ a, (![0, 3328] : Fin 2 → ℕ) a + S256x128.size a ≤ S256x3456.size a)
    (ho : ∀ a, off a + S16x128.size a ≤ S96x3456.size a) (y : S16x128.Idx) :
    k0_pay98 rp (View.ld x (Rect.unit (s := S256x3456) ![0, 3328] S256x128.size hi)) y
      = putA n (amaxB rp x) x11 ((Rect.unit (s := S96x3456) off S16x128.size ho).emb y) := by
  subst hoff
  obtain ⟨a, c, rfl⟩ : ∃ a c, y = ix2 a c := ⟨y 0, y 1, eq_ix2 y⟩
  have e0 : View.ld x (Rect.unit (s := S256x3456) ![0, 3328] S256x128.size hi) = colL x := by
    funext y
    refine congrArg x (funext fun k => Fin.ext ?_)
    fin_cases k
    · show 0 + 1 * (y 0).val = (y 0).val
      omega
    · show 3328 + 1 * (y 1).val = 3328 + (y 1).val
      omega
  rw [e0]
  unfold putA
  rw [dif_pos (show _ ∧ _ from ⟨by show 16 * n.val ≤ 16 * n.val + 1 * a.val; omega, by show 16 * n.val + 1 * a.val < 16 * n.val + 16; omega⟩)]
  have e1 : (⟨(((Rect.unit (s := S96x3456) ![16 * n.val, 3328] S16x128.size ho).emb (ix2 a c)) 0).val - 16 * n.val, by show 16 * n.val + 1 * a.val - 16 * n.val < 16; omega⟩ : Fin 16) = a :=
    Fin.ext (by show 16 * n.val + 1 * a.val - 16 * n.val = a.val; omega)
  have e2 : ((Rect.unit (s := S96x3456) ![16 * n.val, 3328] S16x128.size ho).emb (ix2 a c)) 1 = (⟨3328 + c.val, by omega⟩ : Fin 3456) :=
    Fin.ext (by show 3328 + 1 * c.val = 3328 + c.val; omega)
  refine Eq.trans ?_ (congrArg₂ (amaxB rp x) e1 e2).symm
  unfold amaxB
  rw [dif_neg (show ¬ 3328 + c.val < 3328 by omega)]
  have e4 : (⟨3328 + c.val - 3328, by omega⟩ : Fin 128) = c := Fin.ext (by show 3328 + c.val - 3328 = c.val; omega)
  show _ = k0_pay98 rp (colL x) (ix2 a (⟨3328 + c.val - 3328, by omega⟩ : Fin 128))
  rw [e4]

theorem mem_rowsA {n : Fin 6} {o w : ℕ} {S : Fin 2 → ℕ} (hS : S = ![16, w]) {off : Fin 2 → ℕ} (hoff : off = ![16 * n.val, o]) (ho : ∀ a, off a + S a ≤ S96x3456.size a)
    (y : S96x3456.Idx) (h : 16 * n.val ≤ (y 0).val ∧ (y 0).val < 16 * n.val + 16) (h' : o ≤ (y 1).val ∧ (y 1).val < o + w) :
    y ∈ (Rect.unit (s := S96x3456) off S ho).set := by
  subst hoff
  subst hS
  rw [Rect.mem_set_unit]
  intro a
  fin_cases a
  · exact h
  · exact h'

theorem lt3456 (y : S96x3456.Idx) : (y 1).val < 3456 := (y 1).isLt

/-- The rotation of sixteen tokens spaced sixteen apart, with the signs `w`. -/
def rpM (w : Fin 16 → F .f32) : Vec F S256x256 .bf16 :=
  k0_pay95 (iota .tc S256x256 32 [0] iota_S256x256_d0_w32) (iota .tc S256x256 32 [1] iota_S256x256_d1_w32) (k0_pay12 (F := F))
    (k0_pay16 k0_pay13 (k0_pay14 (w 0) (w 1) (w 2) (w 3) (w 4) (w 5) (w 6)) k0_pay15 (w 7) (w 8) (w 9) (w 10) (w 11) (w 12) (w 13) (w 14)) (k0_pay17 k0_pay13) (k0_pay18 (w 15))

/-- Columns `384 q .. 384 q + 383` of the block maxima. -/
def colsA (q : Fin 9) (x : Vec F S96x3456 .f32) : Vec F S96x384 .f32 := fun y =>
  x (ix2 (y 0) ⟨384 * q.val + (y 1).val, by have := q.isLt; have := (y 1).isLt; change (y 1).val < 384 at this; omega⟩)

theorem cols_ld (x : Vec F S96x3456 .f32) (q : Fin 9) (off : Fin 2 → ℕ) (hoff : off = ![0, 384 * q.val]) (hi : ∀ a, off a + S96x384.size a ≤ S96x3456.size a) :
    View.ld x (Rect.unit (s := S96x3456) off S96x384.size hi) = colsA q x := by
  subst hoff
  funext y
  refine congrArg x (funext fun k => Fin.ext ?_)
  fin_cases k
  · show 0 + 1 * (y 0).val = (y 0).val
    omega
  · show 384 * q.val + 1 * (y 1).val = 384 * q.val + (y 1).val
    omega

theorem ld_first16 (x : Vec F S16 .f32) (o : ℕ) (ho : o < 16) (h : ∀ a, (![o] : Fin 1 → ℕ) a + S1.size a ≤ S16.size a) (k : (Rect.unit (s := S16) ![o] S1.size h).shape.Idx) :
    View.ld x (Rect.unit (s := S16) ![o] S1.size h) k = x (ix1 ⟨o, ho⟩) := by
  refine congrArg x (funext fun a => Fin.ext ?_)
  fin_cases a
  have hk : (k 0).val < 1 := (k 0).isLt
  show o + 1 * (k 0).val = o
  omega
end Cert.Proof.KI
-- ==== Proof.Body.lean ====
module
public import proofs.«01_k».proof.Proof.Pieces
public import Idealize.ShloMosaic.Lib.Pipeline.ValueKit.Basic
@[expose] public section
set_option maxRecDepth 16384
noncomputable section
namespace Cert.Proof.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
variable {F : FTy → Type} [FloatOps F] [Named F]
local notation "𝕄" => MT nD τ sig Unit (Elt F) ℕ (UR sig nD τ) ℕ

/-- The first branch's condition: the step is the first. -/
abbrev c1 (i : grid0.Coords) : BitVec 1 := Scalar.cmpi .ne (Scalar.extui (Scalar.cmpi .eq (BitVec.ofNat 32 (i 0).val) 0#32)) 0#32
/-- The fifth branch's condition: the step turns the first block of the activations. -/
abbrev c5 (i : grid0.Coords) : BitVec 1 := Scalar.cmpi .ne (Scalar.extui (Scalar.cmpi .eq (BitVec.ofNat 32 (i 0).val) 15#32)) 0#32

theorem colC_ld (x : Vec F S256x3456 .bf16) (j : Fin 13) (o : ℕ) (hoo : o = 256 * j.val) (hi : ∀ a, (![0, o] : Fin 2 → ℕ) a + S256x256.size a ≤ S256x3456.size a) :
    View.ld x (Rect.unit (s := S256x3456) ![0, o] S256x256.size hi) = colC x j := by
  subst hoo
  funext y
  refine congrArg x (funext fun k => Fin.ext ?_)
  fin_cases k
  · show 0 + 1 * (y 0).val = (y 0).val
    omega
  · show 256 * j.val + 1 * (y 1).val = 256 * j.val + (y 1).val
    omega

theorem colL_ld (x : Vec F S256x3456 .bf16) (hi : ∀ a, (![0, 3328] : Fin 2 → ℕ) a + S256x128.size a ≤ S256x3456.size a) :
    View.ld x (Rect.unit (s := S256x3456) ![0, 3328] S256x128.size hi) = colL x := by
  funext y
  refine congrArg x (funext fun k => Fin.ext ?_)
  fin_cases k
  · show 0 + 1 * (y 0).val = (y 0).val
    omega
  · show 3328 + 1 * (y 1).val = 3328 + (y 1).val
    omega

theorem colin (j : Fin 13) : ∀ a, (![0, 256 * j.val] : Fin 2 → ℕ) a + S256x256.size a ≤ S256x3456.size a := by
  intro a
  have := j.isLt
  fin_cases a
  · exact Nat.le_refl 256
  · show 256 * j.val + 256 ≤ 3456
    omega

theorem amax_pieceC (n : Fin 6) (rp : Vec F S256x256 .bf16) (x : Vec F S256x3456 .bf16) (x11 : Vec F S96x3456 .f32) (j : Fin 13) (o : ℕ) (hoo : o = 256 * j.val)
    (off : Fin 2 → ℕ) (hoff : off = ![16 * n.val, o]) (ho : ∀ a, off a + S16x256.size a ≤ S96x3456.size a) (y : S16x256.Idx) :
    k0_pay19 rp (colC x j) y = putA n (amaxB rp x) x11 ((Rect.unit (s := S96x3456) off S16x256.size ho).emb y) := by
  subst hoo
  rw [← colC_ld x j _ rfl (colin j)]
  exact amax_piece n rp x x11 j _ rfl off hoff _ ho y

theorem amax_lastC (n : Fin 6) (rp : Vec F S256x256 .bf16) (x : Vec F S256x3456 .bf16) (x11 : Vec F S96x3456 .f32)
    (off : Fin 2 → ℕ) (hoff : off = ![16 * n.val, 3328]) (ho : ∀ a, off a + S16x128.size a ≤ S96x3456.size a) (y : S16x128.Idx) :
    k0_pay98 rp (colL x) y = putA n (amaxB rp x) x11 ((Rect.unit (s := S96x3456) off S16x128.size ho).emb y) := by
  rw [← colL_ld x inb_S256x3456_S256x128_0_3328]
  exact amax_last n rp x x11 off hoff _ ho y

theorem pp0 (r v : Vec F S256x256 .bf16) : k0_pay19 r v = k0_pay19 r v := rfl
theorem pp1 (r v : Vec F S256x256 .bf16) : k0_pay20 r v = k0_pay19 r v := rfl
theorem pp2 (r v : Vec F S256x256 .bf16) : k0_pay22 (k0_pay21 r v) = k0_pay19 r v := rfl
theorem pp3 (r v : Vec F S256x256 .bf16) : k0_pay23 r v = k0_pay19 r v := rfl
theorem pp4 (r v : Vec F S256x256 .bf16) : k0_pay24 r v = k0_pay19 r v := rfl
theorem pp5 (r v : Vec F S256x256 .bf16) : k0_pay26 (k0_pay25 r v) = k0_pay19 r v := rfl
theorem pp6 (r v : Vec F S256x256 .bf16) : k0_pay27 r v = k0_pay19 r v := rfl
theorem pp7 (r v : Vec F S256x256 .bf16) : k0_pay28 r v = k0_pay19 r v := rfl
theorem pp8 (r v : Vec F S256x256 .bf16) : k0_pay30 (k0_pay29 r v) = k0_pay19 r v := rfl
theorem pp9 (r v : Vec F S256x256 .bf16) : k0_pay31 r v = k0_pay19 r v := rfl
theorem pp10 (r v : Vec F S256x256 .bf16) : k0_pay32 r v = k0_pay19 r v := rfl
theorem pp11 (r v : Vec F S256x256 .bf16) : k0_pay96 (k0_pay33 r v) = k0_pay19 r v := rfl
theorem pp12 (r v : Vec F S256x256 .bf16) : k0_pay97 r v = k0_pay19 r v := rfl

theorem hj0 : 0 = 256 * (⟨0, by decide⟩ : Fin 13).val := by norm_num
theorem hj1 : 256 = 256 * (⟨1, by decide⟩ : Fin 13).val := by norm_num
theorem hj2 : 512 = 256 * (⟨2, by decide⟩ : Fin 13).val := by norm_num
theorem hj3 : 768 = 256 * (⟨3, by decide⟩ : Fin 13).val := by norm_num
theorem hj4 : 1024 = 256 * (⟨4, by decide⟩ : Fin 13).val := by norm_num
theorem hj5 : 1280 = 256 * (⟨5, by decide⟩ : Fin 13).val := by norm_num
theorem hj6 : 1536 = 256 * (⟨6, by decide⟩ : Fin 13).val := by norm_num
theorem hj7 : 1792 = 256 * (⟨7, by decide⟩ : Fin 13).val := by norm_num
theorem hj8 : 2048 = 256 * (⟨8, by decide⟩ : Fin 13).val := by norm_num
theorem hj9 : 2304 = 256 * (⟨9, by decide⟩ : Fin 13).val := by norm_num
theorem hj10 : 2560 = 256 * (⟨10, by decide⟩ : Fin 13).val := by norm_num
theorem hj11 : 2816 = 256 * (⟨11, by decide⟩ : Fin 13).val := by norm_num
theorem hj12 : 3072 = 256 * (⟨12, by decide⟩ : Fin 13).val := by norm_num

theorem in16 (k : Fin 16) : ∀ a, (![k.val] : Fin 1 → ℕ) a + S1.size a ≤ S16.size a := by
  intro a
  fin_cases a
  show k.val + 1 ≤ 16
  omega

set_option maxHeartbeats 1000000 in
/-- The first step builds the rotation and takes the first block of maxima. -/
theorem body_start (c : Dev nD) (E : Set ℕ) (i : grid0.Coords) (h1 : c1 i = 1#1) (h2 : k0_cond2 i = 1#1) (h3 : ¬ k0_cond3 i = 1#1) (h4 : ¬ k0_cond4 i = 1#1) (h5 : ¬ c5 i = 1#1) (h6 : ¬ k0_cond6 i = 1#1) (h7 : ¬ k0_cond7 i = 1#1) (h8 : ¬ k0_cond8 i = 1#1)
    (n : Fin 6) (ho1 : k0_off1 i = ![16 * n.val, 0]) (ho2 : k0_off2 i = ![16 * n.val, 256]) (ho3 : k0_off3 i = ![16 * n.val, 512]) (ho4 : k0_off4 i = ![16 * n.val, 768]) (ho5 : k0_off5 i = ![16 * n.val, 1024]) (ho6 : k0_off6 i = ![16 * n.val, 1280]) (ho7 : k0_off7 i = ![16 * n.val, 1536]) (ho8 : k0_off8 i = ![16 * n.val, 1792]) (ho9 : k0_off9 i = ![16 * n.val, 2048]) (ho10 : k0_off10 i = ![16 * n.val, 2304]) (ho11 : k0_off11 i = ![16 * n.val, 2560]) (ho12 : k0_off12 i = ![16 * n.val, 2816]) (ho13 : k0_off13 i = ![16 * n.val, 3072]) (ho14 : k0_off14 i = ![16 * n.val, 3328])
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x1 : Vec F S16 .f32) (x3 : Vec F S256x3456 .bf16) (x9 : Vec F S96x3456 .f32) (K : PUnit → sProp 𝕄) :
    iprop(owns (c : Thread nD τ) arg1 fullShare (x1) ∗ owns (c : Thread nD τ) arg3 fullShare (x3) ∗ owns (c : Thread nD τ) arg9 fullShare (x9) ∗ (∃ d, owns (c : Thread nD τ) arg13 fullShare d)
      ∗ (iprop(owns (c : Thread nD τ) arg1 fullShare (x1) ∗ owns (c : Thread nD τ) arg3 fullShare (x3) ∗ owns (c : Thread nD τ) arg9 fullShare (putA n (amaxB (rpM (fun k : Fin 16 => x1 (ix1 k))) x3) x9) ∗ owns (c : Thread nD τ) arg13 fullShare (rpM (fun k : Fin 16 => x1 (ix1 k)))) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, dif_pos h1, dif_pos h2, dif_neg h3, dif_neg h4, dif_neg h5, dif_neg h6, dif_neg h7, dif_neg h8]
  unfold owns
  iintro ⟨⟨%f1, %hf1, H1⟩, ⟨%f3, %hf3, H3⟩, ⟨%f9, %hf9, H9⟩, ⟨%d13, %f13, -, H13⟩, Hk⟩
  subst hf1 hf3 hf9
  letI I1 : ClosedOff (k0_off1 i) := ⟨![16 * n.val, 0], ho1⟩
  letI I2 : ClosedOff (k0_off2 i) := ⟨![16 * n.val, 256], ho2⟩
  letI I3 : ClosedOff (k0_off3 i) := ⟨![16 * n.val, 512], ho3⟩
  letI I4 : ClosedOff (k0_off4 i) := ⟨![16 * n.val, 768], ho4⟩
  letI I5 : ClosedOff (k0_off5 i) := ⟨![16 * n.val, 1024], ho5⟩
  letI I6 : ClosedOff (k0_off6 i) := ⟨![16 * n.val, 1280], ho6⟩
  letI I7 : ClosedOff (k0_off7 i) := ⟨![16 * n.val, 1536], ho7⟩
  letI I8 : ClosedOff (k0_off8 i) := ⟨![16 * n.val, 1792], ho8⟩
  letI I9 : ClosedOff (k0_off9 i) := ⟨![16 * n.val, 2048], ho9⟩
  letI I10 : ClosedOff (k0_off10 i) := ⟨![16 * n.val, 2304], ho10⟩
  letI I11 : ClosedOff (k0_off11 i) := ⟨![16 * n.val, 2560], ho11⟩
  letI I12 : ClosedOff (k0_off12 i) := ⟨![16 * n.val, 2816], ho12⟩
  letI I13 : ClosedOff (k0_off13 i) := ⟨![16 * n.val, 3072], ho13⟩
  letI I14 : ClosedOff (k0_off14 i) := ⟨![16 * n.val, 3328], ho14⟩
  sl_exec
  sl_step
  iapply Hk
  have eP : rpM (fun k : Fin 16 => View.readAt (Elt F) arg1.view (Rect.unit (s := S16) ![k.val] S1.size (in16 k)).toLoadRect f1 (Shape.Idx.first (numel1_S1.symm ▸ Nat.one_pos)))
      = rpM (fun k : Fin 16 => arg1.view.read (Elt F) f1 (ix1 k)) := congrArg rpM (funext fun k => ld_first16 (arg1.view.read (Elt F) f1) k.val k.isLt _ _)
  isplitl [H1]
  · iexists f1; isplitr; · ipureintro; rfl
    iexact H1
  isplitl [H3]
  · iexists f3; isplitr; · ipureintro; rfl
    iexact H3
  isplitl [H9]
  · iexists _; isplitr; swap; · iexact H9
    ipureintro
    have eV : body_start.sl.v55 c arg1 arg13 f1 = rpM (fun k : Fin 16 => arg1.view.read (Elt F) f1 (ix1 k)) := (View.readCov_unit_zero (S := S256x256) _ (by decide) _ _).trans eP
    funext y
    have eC0 : View.readAt (Elt F) arg3.view (Rect.unit (s := S256x3456) ![0, 0] S256x256.size inb_S256x3456_S256x256_0_0).toLoadRect f3 = colC (arg3.view.read (Elt F) f3) ⟨0, by decide⟩ := colC_ld _ _ _ hj0 _
    have eC1 : View.readAt (Elt F) arg3.view (Rect.unit (s := S256x3456) ![0, 256] S256x256.size inb_S256x3456_S256x256_0_256).toLoadRect f3 = colC (arg3.view.read (Elt F) f3) ⟨1, by decide⟩ := colC_ld _ _ _ hj1 _
    have eC2 : View.readAt (Elt F) arg3.view (Rect.unit (s := S256x3456) ![0, 512] S256x256.size inb_S256x3456_S256x256_0_512).toLoadRect f3 = colC (arg3.view.read (Elt F) f3) ⟨2, by decide⟩ := colC_ld _ _ _ hj2 _
    have eC3 : View.readAt (Elt F) arg3.view (Rect.unit (s := S256x3456) ![0, 768] S256x256.size inb_S256x3456_S256x256_0_768).toLoadRect f3 = colC (arg3.view.read (Elt F) f3) ⟨3, by decide⟩ := colC_ld _ _ _ hj3 _
    have eC4 : View.readAt (Elt F) arg3.view (Rect.unit (s := S256x3456) ![0, 1024] S256x256.size inb_S256x3456_S256x256_0_1024).toLoadRect f3 = colC (arg3.view.read (Elt F) f3) ⟨4, by decide⟩ := colC_ld _ _ _ hj4 _
    have eC5 : View.readAt (Elt F) arg3.view (Rect.unit (s := S256x3456) ![0, 1280] S256x256.size inb_S256x3456_S256x256_0_1280).toLoadRect f3 = colC (arg3.view.read (Elt F) f3) ⟨5, by decide⟩ := colC_ld _ _ _ hj5 _
    have eC6 : View.readAt (Elt F) arg3.view (Rect.unit (s := S256x3456) ![0, 1536] S256x256.size inb_S256x3456_S256x256_0_1536).toLoadRect f3 = colC (arg3.view.read (Elt F) f3) ⟨6, by decide⟩ := colC_ld _ _ _ hj6 _
    have eC7 : View.readAt (Elt F) arg3.view (Rect.unit (s := S256x3456) ![0, 1792] S256x256.size inb_S256x3456_S256x256_0_1792).toLoadRect f3 = colC (arg3.view.read (Elt F) f3) ⟨7, by decide⟩ := colC_ld _ _ _ hj7 _
    have eC8 : View.readAt (Elt F) arg3.view (Rect.unit (s := S256x3456) ![0, 2048] S256x256.size inb_S256x3456_S256x256_0_2048).toLoadRect f3 = colC (arg3.view.read (Elt F) f3) ⟨8, by decide⟩ := colC_ld _ _ _ hj8 _
    have eC9 : View.readAt (Elt F) arg3.view (Rect.unit (s := S256x3456) ![0, 2304] S256x256.size inb_S256x3456_S256x256_0_2304).toLoadRect f3 = colC (arg3.view.read (Elt F) f3) ⟨9, by decide⟩ := colC_ld _ _ _ hj9 _
    have eC10 : View.readAt (Elt F) arg3.view (Rect.unit (s := S256x3456) ![0, 2560] S256x256.size inb_S256x3456_S256x256_0_2560).toLoadRect f3 = colC (arg3.view.read (Elt F) f3) ⟨10, by decide⟩ := colC_ld _ _ _ hj10 _
    have eC11 : View.readAt (Elt F) arg3.view (Rect.unit (s := S256x3456) ![0, 2816] S256x256.size inb_S256x3456_S256x256_0_2816).toLoadRect f3 = colC (arg3.view.read (Elt F) f3) ⟨11, by decide⟩ := colC_ld _ _ _ hj11 _
    have eC12 : View.readAt (Elt F) arg3.view (Rect.unit (s := S256x3456) ![0, 3072] S256x256.size inb_S256x3456_S256x256_0_3072).toLoadRect f3 = colC (arg3.view.read (Elt F) f3) ⟨12, by decide⟩ := colC_ld _ _ _ hj12 _
    have eL : View.readAt (Elt F) arg3.view (Rect.unit (s := S256x3456) ![0, 3328] S256x128.size inb_S256x3456_S256x128_0_3328).toLoadRect f3 = colL (arg3.view.read (Elt F) f3) := colL_ld _ _
    refine read_writes_eq _ _ (putA n (amaxB (rpM (fun k : Fin 16 => arg1.view.read (Elt F) f1 (ix1 k))) (arg3.view.read (Elt F) f3)) (arg9.view.read (Elt F) f9)) _ ?_ y ?_
    · refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩
      · intro x; dsimp only; rw [eV, eL]; exact amax_lastC n _ _ _ (k0_off14 i) ho14 (k0_off14_inb i h2) x
      · intro x; dsimp only; rw [eV, eC12, pp12]; exact amax_pieceC n _ _ _ ⟨12, by decide⟩ 3072 hj12 (k0_off13 i) ho13 (k0_off13_inb i h2) x
      · intro x; dsimp only; rw [eV, eC11, pp11]; exact amax_pieceC n _ _ _ ⟨11, by decide⟩ 2816 hj11 (k0_off12 i) ho12 (k0_off12_inb i h2) x
      · intro x; dsimp only; rw [eV, eC10, pp10]; exact amax_pieceC n _ _ _ ⟨10, by decide⟩ 2560 hj10 (k0_off11 i) ho11 (k0_off11_inb i h2) x
      · intro x; dsimp only; rw [eV, eC9, pp9]; exact amax_pieceC n _ _ _ ⟨9, by decide⟩ 2304 hj9 (k0_off10 i) ho10 (k0_off10_inb i h2) x
      · intro x; dsimp only; rw [eV, eC8, pp8]; exact amax_pieceC n _ _ _ ⟨8, by decide⟩ 2048 hj8 (k0_off9 i) ho9 (k0_off9_inb i h2) x
      · intro x; dsimp only; rw [eV, eC7, pp7]; exact amax_pieceC n _ _ _ ⟨7, by decide⟩ 1792 hj7 (k0_off8 i) ho8 (k0_off8_inb i h2) x
      · intro x; dsimp only; rw [eV, eC6, pp6]; exact amax_pieceC n _ _ _ ⟨6, by decide⟩ 1536 hj6 (k0_off7 i) ho7 (k0_off7_inb i h2) x
      · intro x; dsimp only; rw [eV, eC5, pp5]; exact amax_pieceC n _ _ _ ⟨5, by decide⟩ 1280 hj5 (k0_off6 i) ho6 (k0_off6_inb i h2) x
      · intro x; dsimp only; rw [eV, eC4, pp4]; exact amax_pieceC n _ _ _ ⟨4, by decide⟩ 1024 hj4 (k0_off5 i) ho5 (k0_off5_inb i h2) x
      · intro x; dsimp only; rw [eV, eC3, pp3]; exact amax_pieceC n _ _ _ ⟨3, by decide⟩ 768 hj3 (k0_off4 i) ho4 (k0_off4_inb i h2) x
      · intro x; dsimp only; rw [eV, eC2, pp2]; exact amax_pieceC n _ _ _ ⟨2, by decide⟩ 512 hj2 (k0_off3 i) ho3 (k0_off3_inb i h2) x
      · intro x; dsimp only; rw [eV, eC1, pp1]; exact amax_pieceC n _ _ _ ⟨1, by decide⟩ 256 hj1 (k0_off2 i) ho2 (k0_off2_inb i h2) x
      · intro x; dsimp only; rw [eV, eC0, pp0]; exact amax_pieceC n _ _ _ ⟨0, by decide⟩ 0 hj0 (k0_off1 i) ho1 (k0_off1_inb i h2) x
    · by_cases h : 16 * n.val ≤ (y 0).val ∧ (y 0).val < 16 * n.val + 16
      · left
        have hy := lt3456 y
        rcases Nat.lt_or_ge (y 1).val 256 with g1 | g1
        · exact ⟨_, .tail _ (.tail _ (.tail _ (.tail _ (.tail _ (.tail _ (.tail _ (.tail _ (.tail _ (.tail _ (.tail _ (.tail _ (.tail _ (.head _))))))))))))), mem_rowsA rfl ho1 (k0_off1_inb i h2) y h ⟨by omega, by omega⟩⟩
        rcases Nat.lt_or_ge (y 1).val 512 with g2 | g2
        · exact ⟨_, .tail _ (.tail _ (.tail _ (.tail _ (.tail _ (.tail _ (.tail _ (.tail _ (.tail _ (.tail _ (.tail _ (.tail _ (.head _)))))))))))), mem_rowsA rfl ho2 (k0_off2_inb i h2) y h ⟨by omega, by omega⟩⟩
        rcases Nat.lt_or_ge (y 1).val 768 with g3 | g3
        · exact ⟨_, .tail _ (.tail _ (.tail _ (.tail _ (.tail _ (.tail _ (.tail _ (.tail _ (.tail _ (.tail _ (.tail _ (.head _))))))))))), mem_rowsA rfl ho3 (k0_off3_inb i h2) y h ⟨by omega, by omega⟩⟩
        rcases Nat.lt_or_ge (y 1).val 1024 with g4 | g4
        · exact ⟨_, .tail _ (.tail _ (.tail _ (.tail _ (.tail _ (.tail _ (.tail _ (.tail _ (.tail _ (.tail _ (.head _)))))))))), mem_rowsA rfl ho4 (k0_off4_inb i h2) y h ⟨by omega, by omega⟩⟩
        rcases Nat.lt_or_ge (y 1).val 1280 with g5 | g5
        · exact ⟨_, .tail _ (.tail _ (.tail _ (.tail _ (.tail _ (.tail _ (.tail _ (.tail _ (.tail _ (.head _))))))))), mem_rowsA rfl ho5 (k0_off5_inb i h2) y h ⟨by omega, by omega⟩⟩
        rcases Nat.lt_or_ge (y 1).val 1536 with g6 | g6
        · exact ⟨_, .tail _ (.tail _ (.tail _ (.tail _ (.tail _ (.tail _ (.tail _ (.tail _ (.head _)))))))), mem_rowsA rfl ho6 (k0_off6_inb i h2) y h ⟨by omega, by omega⟩⟩
        rcases Nat.lt_or_ge (y 1).val 1792 with g7 | g7
        · exact ⟨_, .tail _ (.tail _ (.tail _ (.tail _ (.tail _ (.tail _ (.tail _ (.head _))))))), mem_rowsA rfl ho7 (k0_off7_inb i h2) y h ⟨by omega, by omega⟩⟩
        rcases Nat.lt_or_ge (y 1).val 2048 with g8 | g8
        · exact ⟨_, .tail _ (.tail _ (.tail _ (.tail _ (.tail _ (.tail _ (.head _)))))), mem_rowsA rfl ho8 (k0_off8_inb i h2) y h ⟨by omega, by omega⟩⟩
        rcases Nat.lt_or_ge (y 1).val 2304 with g9 | g9
        · exact ⟨_, .tail _ (.tail _ (.tail _ (.tail _ (.tail _ (.head _))))), mem_rowsA rfl ho9 (k0_off9_inb i h2) y h ⟨by omega, by omega⟩⟩
        rcases Nat.lt_or_ge (y 1).val 2560 with g10 | g10
        · exact ⟨_, .tail _ (.tail _ (.tail _ (.tail _ (.head _)))), mem_rowsA rfl ho10 (k0_off10_inb i h2) y h ⟨by omega, by omega⟩⟩
        rcases Nat.lt_or_ge (y 1).val 2816 with g11 | g11
        · exact ⟨_, .tail _ (.tail _ (.tail _ (.head _))), mem_rowsA rfl ho11 (k0_off11_inb i h2) y h ⟨by omega, by omega⟩⟩
        rcases Nat.lt_or_ge (y 1).val 3072 with g12 | g12
        · exact ⟨_, .tail _ (.tail _ (.head _)), mem_rowsA rfl ho12 (k0_off12_inb i h2) y h ⟨by omega, by omega⟩⟩
        rcases Nat.lt_or_ge (y 1).val 3328 with g13 | g13
        · exact ⟨_, .tail _ (.head _), mem_rowsA rfl ho13 (k0_off13_inb i h2) y h ⟨by omega, by omega⟩⟩
        · exact ⟨_, .head _, mem_rowsA (w := 128) rfl ho14 (k0_off14_inb i h2) y h ⟨by omega, by omega⟩⟩
      · right
        exact putA_of_out _ _ _ y h
  · iexists _; isplitr; swap; · iexact H13
    ipureintro
    refine (View.read_writes_eq_canon _ _ _ ?_).trans ?_
    · exact View.cover_of_tiled (s := S256x256) _ S256x256.size (by rfl)
    exact Eq.trans (View.canon_unit_zero (S := S256x256) (by decide : (![0, 0] : Fin 2 → ℕ) = fun _ => 0) inb_S256x256_S256x256_0_0 _) eP

set_option maxHeartbeats 1000000 in
/-- A step that takes one block of maxima. -/
theorem body_amax (c : Dev nD) (E : Set ℕ) (i : grid0.Coords) (h1 : ¬ c1 i = 1#1) (h2 : k0_cond2 i = 1#1) (h3 : ¬ k0_cond3 i = 1#1) (h4 : ¬ k0_cond4 i = 1#1) (h5 : ¬ c5 i = 1#1) (h6 : ¬ k0_cond6 i = 1#1) (h7 : ¬ k0_cond7 i = 1#1) (h8 : ¬ k0_cond8 i = 1#1)
    (n : Fin 6) (ho1 : k0_off1 i = ![16 * n.val, 0]) (ho2 : k0_off2 i = ![16 * n.val, 256]) (ho3 : k0_off3 i = ![16 * n.val, 512]) (ho4 : k0_off4 i = ![16 * n.val, 768]) (ho5 : k0_off5 i = ![16 * n.val, 1024]) (ho6 : k0_off6 i = ![16 * n.val, 1280]) (ho7 : k0_off7 i = ![16 * n.val, 1536]) (ho8 : k0_off8 i = ![16 * n.val, 1792]) (ho9 : k0_off9 i = ![16 * n.val, 2048]) (ho10 : k0_off10 i = ![16 * n.val, 2304]) (ho11 : k0_off11 i = ![16 * n.val, 2560]) (ho12 : k0_off12 i = ![16 * n.val, 2816]) (ho13 : k0_off13 i = ![16 * n.val, 3072]) (ho14 : k0_off14 i = ![16 * n.val, 3328])
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x3 : Vec F S256x3456 .bf16) (x9 : Vec F S96x3456 .f32) (x13 : Vec F S256x256 .bf16) (K : PUnit → sProp 𝕄) :
    iprop(owns (c : Thread nD τ) arg3 fullShare (x3) ∗ owns (c : Thread nD τ) arg9 fullShare (x9) ∗ owns (c : Thread nD τ) arg13 fullShare (x13)
      ∗ (iprop(owns (c : Thread nD τ) arg3 fullShare (x3) ∗ owns (c : Thread nD τ) arg9 fullShare (putA n (amaxB x13 x3) x9) ∗ owns (c : Thread nD τ) arg13 fullShare (x13)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part3_eq_skeleton, k0_part3_skel, k0_part4_eq_skeleton, k0_part4_skel, k0_part5_eq_skeleton, k0_part5_skel, k0_part6_eq_skeleton, k0_part6_skel, dif_neg h1, dif_pos h2, dif_neg h3, dif_neg h4, dif_neg h5, dif_neg h6, dif_neg h7, dif_neg h8]
  unfold owns
  iintro ⟨⟨%f3, %hf3, H3⟩, ⟨%f9, %hf9, H9⟩, ⟨%f13, %hf13, H13⟩, Hk⟩
  subst hf3 hf9 hf13
  letI I1 : ClosedOff (k0_off1 i) := ⟨![16 * n.val, 0], ho1⟩
  letI I2 : ClosedOff (k0_off2 i) := ⟨![16 * n.val, 256], ho2⟩
  letI I3 : ClosedOff (k0_off3 i) := ⟨![16 * n.val, 512], ho3⟩
  letI I4 : ClosedOff (k0_off4 i) := ⟨![16 * n.val, 768], ho4⟩
  letI I5 : ClosedOff (k0_off5 i) := ⟨![16 * n.val, 1024], ho5⟩
  letI I6 : ClosedOff (k0_off6 i) := ⟨![16 * n.val, 1280], ho6⟩
  letI I7 : ClosedOff (k0_off7 i) := ⟨![16 * n.val, 1536], ho7⟩
  letI I8 : ClosedOff (k0_off8 i) := ⟨![16 * n.val, 1792], ho8⟩
  letI I9 : ClosedOff (k0_off9 i) := ⟨![16 * n.val, 2048], ho9⟩
  letI I10 : ClosedOff (k0_off10 i) := ⟨![16 * n.val, 2304], ho10⟩
  letI I11 : ClosedOff (k0_off11 i) := ⟨![16 * n.val, 2560], ho11⟩
  letI I12 : ClosedOff (k0_off12 i) := ⟨![16 * n.val, 2816], ho12⟩
  letI I13 : ClosedOff (k0_off13 i) := ⟨![16 * n.val, 3072], ho13⟩
  letI I14 : ClosedOff (k0_off14 i) := ⟨![16 * n.val, 3328], ho14⟩
  sl_exec
  sl_step
  iapply Hk
  have eR : View.readAt (Elt F) arg13.view (Rect.unit (s := S256x256) ![0, 0] S256x256.size inb_S256x256_S256x256_0_0).toLoadRect f13 = arg13.view.read (Elt F) f13 := View.ld_unit_lit _ _ (by decide)
  isplitl [H3]
  · iexists f3; isplitr; · ipureintro; rfl
    iexact H3
  isplitl [H9]
  · iexists _; isplitr; swap; · iexact H9
    ipureintro
    funext y
    have eC0 : View.readAt (Elt F) arg3.view (Rect.unit (s := S256x3456) ![0, 0] S256x256.size inb_S256x3456_S256x256_0_0).toLoadRect f3 = colC (arg3.view.read (Elt F) f3) ⟨0, by decide⟩ := colC_ld _ _ _ hj0 _
    have eC1 : View.readAt (Elt F) arg3.view (Rect.unit (s := S256x3456) ![0, 256] S256x256.size inb_S256x3456_S256x256_0_256).toLoadRect f3 = colC (arg3.view.read (Elt F) f3) ⟨1, by decide⟩ := colC_ld _ _ _ hj1 _
    have eC2 : View.readAt (Elt F) arg3.view (Rect.unit (s := S256x3456) ![0, 512] S256x256.size inb_S256x3456_S256x256_0_512).toLoadRect f3 = colC (arg3.view.read (Elt F) f3) ⟨2, by decide⟩ := colC_ld _ _ _ hj2 _
    have eC3 : View.readAt (Elt F) arg3.view (Rect.unit (s := S256x3456) ![0, 768] S256x256.size inb_S256x3456_S256x256_0_768).toLoadRect f3 = colC (arg3.view.read (Elt F) f3) ⟨3, by decide⟩ := colC_ld _ _ _ hj3 _
    have eC4 : View.readAt (Elt F) arg3.view (Rect.unit (s := S256x3456) ![0, 1024] S256x256.size inb_S256x3456_S256x256_0_1024).toLoadRect f3 = colC (arg3.view.read (Elt F) f3) ⟨4, by decide⟩ := colC_ld _ _ _ hj4 _
    have eC5 : View.readAt (Elt F) arg3.view (Rect.unit (s := S256x3456) ![0, 1280] S256x256.size inb_S256x3456_S256x256_0_1280).toLoadRect f3 = colC (arg3.view.read (Elt F) f3) ⟨5, by decide⟩ := colC_ld _ _ _ hj5 _
    have eC6 : View.readAt (Elt F) arg3.view (Rect.unit (s := S256x3456) ![0, 1536] S256x256.size inb_S256x3456_S256x256_0_1536).toLoadRect f3 = colC (arg3.view.read (Elt F) f3) ⟨6, by decide⟩ := colC_ld _ _ _ hj6 _
    have eC7 : View.readAt (Elt F) arg3.view (Rect.unit (s := S256x3456) ![0, 1792] S256x256.size inb_S256x3456_S256x256_0_1792).toLoadRect f3 = colC (arg3.view.read (Elt F) f3) ⟨7, by decide⟩ := colC_ld _ _ _ hj7 _
    have eC8 : View.readAt (Elt F) arg3.view (Rect.unit (s := S256x3456) ![0, 2048] S256x256.size inb_S256x3456_S256x256_0_2048).toLoadRect f3 = colC (arg3.view.read (Elt F) f3) ⟨8, by decide⟩ := colC_ld _ _ _ hj8 _
    have eC9 : View.readAt (Elt F) arg3.view (Rect.unit (s := S256x3456) ![0, 2304] S256x256.size inb_S256x3456_S256x256_0_2304).toLoadRect f3 = colC (arg3.view.read (Elt F) f3) ⟨9, by decide⟩ := colC_ld _ _ _ hj9 _
    have eC10 : View.readAt (Elt F) arg3.view (Rect.unit (s := S256x3456) ![0, 2560] S256x256.size inb_S256x3456_S256x256_0_2560).toLoadRect f3 = colC (arg3.view.read (Elt F) f3) ⟨10, by decide⟩ := colC_ld _ _ _ hj10 _
    have eC11 : View.readAt (Elt F) arg3.view (Rect.unit (s := S256x3456) ![0, 2816] S256x256.size inb_S256x3456_S256x256_0_2816).toLoadRect f3 = colC (arg3.view.read (Elt F) f3) ⟨11, by decide⟩ := colC_ld _ _ _ hj11 _
    have eC12 : View.readAt (Elt F) arg3.view (Rect.unit (s := S256x3456) ![0, 3072] S256x256.size inb_S256x3456_S256x256_0_3072).toLoadRect f3 = colC (arg3.view.read (Elt F) f3) ⟨12, by decide⟩ := colC_ld _ _ _ hj12 _
    have eL : View.readAt (Elt F) arg3.view (Rect.unit (s := S256x3456) ![0, 3328] S256x128.size inb_S256x3456_S256x128_0_3328).toLoadRect f3 = colL (arg3.view.read (Elt F) f3) := colL_ld _ _
    refine read_writes_eq _ _ (putA n (amaxB (arg13.view.read (Elt F) f13) (arg3.view.read (Elt F) f3)) (arg9.view.read (Elt F) f9)) _ ?_ y ?_
    · refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, fun _ h => absurd h List.not_mem_nil⟩⟩⟩⟩⟩⟩⟩⟩⟩⟩⟩⟩⟩⟩
      · intro x; dsimp only; rw [eR, eL]; exact amax_lastC n _ _ _ (k0_off14 i) ho14 (k0_off14_inb i h2) x
      · intro x; dsimp only; rw [eR, eC12, pp12]; exact amax_pieceC n _ _ _ ⟨12, by decide⟩ 3072 hj12 (k0_off13 i) ho13 (k0_off13_inb i h2) x
      · intro x; dsimp only; rw [eR, eC11, pp11]; exact amax_pieceC n _ _ _ ⟨11, by decide⟩ 2816 hj11 (k0_off12 i) ho12 (k0_off12_inb i h2) x
      · intro x; dsimp only; rw [eR, eC10, pp10]; exact amax_pieceC n _ _ _ ⟨10, by decide⟩ 2560 hj10 (k0_off11 i) ho11 (k0_off11_inb i h2) x
      · intro x; dsimp only; rw [eR, eC9, pp9]; exact amax_pieceC n _ _ _ ⟨9, by decide⟩ 2304 hj9 (k0_off10 i) ho10 (k0_off10_inb i h2) x
      · intro x; dsimp only; rw [eR, eC8, pp8]; exact amax_pieceC n _ _ _ ⟨8, by decide⟩ 2048 hj8 (k0_off9 i) ho9 (k0_off9_inb i h2) x
      · intro x; dsimp only; rw [eR, eC7, pp7]; exact amax_pieceC n _ _ _ ⟨7, by decide⟩ 1792 hj7 (k0_off8 i) ho8 (k0_off8_inb i h2) x
      · intro x; dsimp only; rw [eR, eC6, pp6]; exact amax_pieceC n _ _ _ ⟨6, by decide⟩ 1536 hj6 (k0_off7 i) ho7 (k0_off7_inb i h2) x
      · intro x; dsimp only; rw [eR, eC5, pp5]; exact amax_pieceC n _ _ _ ⟨5, by decide⟩ 1280 hj5 (k0_off6 i) ho6 (k0_off6_inb i h2) x
      · intro x; dsimp only; rw [eR, eC4, pp4]; exact amax_pieceC n _ _ _ ⟨4, by decide⟩ 1024 hj4 (k0_off5 i) ho5 (k0_off5_inb i h2) x
      · intro x; dsimp only; rw [eR, eC3, pp3]; exact amax_pieceC n _ _ _ ⟨3, by decide⟩ 768 hj3 (k0_off4 i) ho4 (k0_off4_inb i h2) x
      · intro x; dsimp only; rw [eR, eC2, pp2]; exact amax_pieceC n _ _ _ ⟨2, by decide⟩ 512 hj2 (k0_off3 i) ho3 (k0_off3_inb i h2) x
      · intro x; dsimp only; rw [eR, eC1, pp1]; exact amax_pieceC n _ _ _ ⟨1, by decide⟩ 256 hj1 (k0_off2 i) ho2 (k0_off2_inb i h2) x
      · intro x; dsimp only; rw [eR, eC0, pp0]; exact amax_pieceC n _ _ _ ⟨0, by decide⟩ 0 hj0 (k0_off1 i) ho1 (k0_off1_inb i h2) x
    · by_cases h : 16 * n.val ≤ (y 0).val ∧ (y 0).val < 16 * n.val + 16
      · left
        have hy := lt3456 y
        rcases Nat.lt_or_ge (y 1).val 256 with g1 | g1
        · exact ⟨_, .tail _ (.tail _ (.tail _ (.tail _ (.tail _ (.tail _ (.tail _ (.tail _ (.tail _ (.tail _ (.tail _ (.tail _ (.tail _ (.head _))))))))))))), mem_rowsA rfl ho1 (k0_off1_inb i h2) y h ⟨by omega, by omega⟩⟩
        rcases Nat.lt_or_ge (y 1).val 512 with g2 | g2
        · exact ⟨_, .tail _ (.tail _ (.tail _ (.tail _ (.tail _ (.tail _ (.tail _ (.tail _ (.tail _ (.tail _ (.tail _ (.tail _ (.head _)))))))))))), mem_rowsA rfl ho2 (k0_off2_inb i h2) y h ⟨by omega, by omega⟩⟩
        rcases Nat.lt_or_ge (y 1).val 768 with g3 | g3
        · exact ⟨_, .tail _ (.tail _ (.tail _ (.tail _ (.tail _ (.tail _ (.tail _ (.tail _ (.tail _ (.tail _ (.tail _ (.head _))))))))))), mem_rowsA rfl ho3 (k0_off3_inb i h2) y h ⟨by omega, by omega⟩⟩
        rcases Nat.lt_or_ge (y 1).val 1024 with g4 | g4
        · exact ⟨_, .tail _ (.tail _ (.tail _ (.tail _ (.tail _ (.tail _ (.tail _ (.tail _ (.tail _ (.tail _ (.head _)))))))))), mem_rowsA rfl ho4 (k0_off4_inb i h2) y h ⟨by omega, by omega⟩⟩
        rcases Nat.lt_or_ge (y 1).val 1280 with g5 | g5
        · exact ⟨_, .tail _ (.tail _ (.tail _ (.tail _ (.tail _ (.tail _ (.tail _ (.tail _ (.tail _ (.head _))))))))), mem_rowsA rfl ho5 (k0_off5_inb i h2) y h ⟨by omega, by omega⟩⟩
        rcases Nat.lt_or_ge (y 1).val 1536 with g6 | g6
        · exact ⟨_, .tail _ (.tail _ (.tail _ (.tail _ (.tail _ (.tail _ (.tail _ (.tail _ (.head _)))))))), mem_rowsA rfl ho6 (k0_off6_inb i h2) y h ⟨by omega, by omega⟩⟩
        rcases Nat.lt_or_ge (y 1).val 1792 with g7 | g7
        · exact ⟨_, .tail _ (.tail _ (.tail _ (.tail _ (.tail _ (.tail _ (.tail _ (.head _))))))), mem_rowsA rfl ho7 (k0_off7_inb i h2) y h ⟨by omega, by omega⟩⟩
        rcases Nat.lt_or_ge (y 1).val 2048 with g8 | g8
        · exact ⟨_, .tail _ (.tail _ (.tail _ (.tail _ (.tail _ (.tail _ (.head _)))))), mem_rowsA rfl ho8 (k0_off8_inb i h2) y h ⟨by omega, by omega⟩⟩
        rcases Nat.lt_or_ge (y 1).val 2304 with g9 | g9
        · exact ⟨_, .tail _ (.tail _ (.tail _ (.tail _ (.tail _ (.head _))))), mem_rowsA rfl ho9 (k0_off9_inb i h2) y h ⟨by omega, by omega⟩⟩
        rcases Nat.lt_or_ge (y 1).val 2560 with g10 | g10
        · exact ⟨_, .tail _ (.tail _ (.tail _ (.tail _ (.head _)))), mem_rowsA rfl ho10 (k0_off10_inb i h2) y h ⟨by omega, by omega⟩⟩
        rcases Nat.lt_or_ge (y 1).val 2816 with g11 | g11
        · exact ⟨_, .tail _ (.tail _ (.tail _ (.head _))), mem_rowsA rfl ho11 (k0_off11_inb i h2) y h ⟨by omega, by omega⟩⟩
        rcases Nat.lt_or_ge (y 1).val 3072 with g12 | g12
        · exact ⟨_, .tail _ (.tail _ (.head _)), mem_rowsA rfl ho12 (k0_off12_inb i h2) y h ⟨by omega, by omega⟩⟩
        rcases Nat.lt_or_ge (y 1).val 3328 with g13 | g13
        · exact ⟨_, .tail _ (.head _), mem_rowsA rfl ho13 (k0_off13_inb i h2) y h ⟨by omega, by omega⟩⟩
        · exact ⟨_, .head _, mem_rowsA (w := 128) rfl ho14 (k0_off14_inb i h2) y h ⟨by omega, by omega⟩⟩
      · right
        exact putA_of_out _ _ _ y h
  · iexists f13; isplitr; · ipureintro; rfl
    iexact H13

set_option maxHeartbeats 1000000 in
/-- The step that computes the scale of the gradient, and handles its first column block. -/
theorem body_first (c : Dev nD) (E : Set ℕ) (i : grid0.Coords) (h1 : ¬ c1 i = 1#1) (h2 : ¬ k0_cond2 i = 1#1) (h3 : k0_cond3 i = 1#1) (h4 : k0_cond4 i = 1#1) (h5 : ¬ c5 i = 1#1) (h6 : ¬ k0_cond6 i = 1#1) (h7 : ¬ k0_cond7 i = 1#1) (h8 : ¬ k0_cond8 i = 1#1)
    (q : Fin 9) (ho15 : k0_off15 i = ![0, 384 * q.val]) (ho16 : k0_off16 i = ![384 * q.val, 0]) (ho17 : k0_off17 i = ![384 * q.val, 256]) (ho18 : k0_off18 i = ![384 * q.val, 512]) (ho19 : k0_off19 i = ![384 * q.val, 768]) (ho20 : k0_off20 i = ![384 * q.val, 1024]) (ho21 : k0_off21 i = ![384 * q.val, 1280])
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x2 : Vec F S1 .f32) (x4 : Vec F S1536x384 .bf16) (x9 : Vec F S96x3456 .f32) (x10 : Vec F S3456x1536 .bf16) (K : PUnit → sProp 𝕄) :
    iprop(owns (c : Thread nD τ) arg2 fullShare (x2) ∗ owns (c : Thread nD τ) arg4 fullShare (x4) ∗ (∃ d, owns (c : Thread nD τ) arg7 fullShare d) ∗ (∃ d, owns (c : Thread nD τ) arg8 fullShare d) ∗ owns (c : Thread nD τ) arg9 fullShare (x9) ∗ owns (c : Thread nD τ) arg10 fullShare (x10) ∗ (∃ d, owns (c : Thread nD τ) arg14 fullShare d)
      ∗ (iprop(owns (c : Thread nD τ) arg2 fullShare (x2) ∗ owns (c : Thread nD τ) arg4 fullShare (x4) ∗ owns (c : Thread nD τ) arg7 fullShare (k0_pay34 (colsA q x9) (k0_pay99 x9)) ∗ owns (c : Thread nD τ) arg8 fullShare (fun _ => k0_pay99 x9) ∗ owns (c : Thread nD τ) arg9 fullShare (x9) ∗ owns (c : Thread nD τ) arg10 fullShare (putRows (384 * q.val) x4 x10) ∗ owns (c : Thread nD τ) arg14 fullShare (pair (x2 (ix1 0)) (k0_pay99 x9))) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part7_eq_skeleton, k0_part7_skel, dif_neg h1, dif_neg h2, dif_pos h3, dif_pos h4, dif_neg h5, dif_neg h6, dif_neg h7, dif_neg h8]
  unfold owns
  iintro ⟨⟨%f2, %hf2, H2⟩, ⟨%f4, %hf4, H4⟩, ⟨%d7, %f7, -, H7⟩, ⟨%d8, %f8, -, H8⟩, ⟨%f9, %hf9, H9⟩, ⟨%f10, %hf10, H10⟩, ⟨%d14, %f14, -, H14⟩, Hk⟩
  subst hf2 hf4 hf9 hf10
  letI I16 : ClosedOff (k0_off16 i) := ⟨![384 * q.val, 0], ho16⟩
  letI I17 : ClosedOff (k0_off17 i) := ⟨![384 * q.val, 256], ho17⟩
  letI I18 : ClosedOff (k0_off18 i) := ⟨![384 * q.val, 512], ho18⟩
  letI I19 : ClosedOff (k0_off19 i) := ⟨![384 * q.val, 768], ho19⟩
  letI I20 : ClosedOff (k0_off20 i) := ⟨![384 * q.val, 1024], ho20⟩
  letI I21 : ClosedOff (k0_off21 i) := ⟨![384 * q.val, 1280], ho21⟩
  sl_exec
  sl_step
  iapply Hk
  have e9 : View.readAt (Elt F) arg9.view (Rect.unit (s := S96x3456) ![0, 0] S96x3456.size inb_S96x3456_S96x3456_0_0).toLoadRect f9 = arg9.view.read (Elt F) f9 := View.ld_unit_lit _ _ (by decide)
  isplitl [H2]
  · iexists f2; isplitr; · ipureintro; rfl
    iexact H2
  isplitl [H4]
  · iexists f4; isplitr; · ipureintro; rfl
    iexact H4
  isplitl [H7]
  · iexists _; isplitr; swap; · iexact H7
    ipureintro
    refine (View.read_writes_eq_canon _ _ _ ?_).trans ?_
    · exact View.cover_of_tiled (s := S96x384) _ S96x384.size (by rfl)
    rw [View.canon_unit_zero (by decide)]
    exact congrArg₂ k0_pay34 (cols_ld _ q _ ho15 _) (congrArg k0_pay99 e9)
  isplitl [H8]
  · iexists _; isplitr; swap; · iexact H8
    ipureintro
    refine (View.read_writes_eq_canon _ _ _ ?_).trans ?_
    · exact View.cover_of_tiled (s := S1) _ S1.size (by rfl)
    rw [View.canon_unit_zero (by decide)]
    exact funext fun _ => congrArg k0_pay99 e9
  isplitl [H9]
  · iexists f9; isplitr; · ipureintro; rfl
    iexact H9
  isplitl [H10]
  · iexists _; isplitr; swap; · iexact H10
    ipureintro
    funext y
    refine read_writes_eq _ _ (putRows (384 * q.val) (arg4.view.read (Elt F) f4) (arg10.view.read (Elt F) f10)) _ ?_ y ?_
    · simp only [List.forall_mem_cons, List.not_mem_nil, false_imp_iff, implies_true, _root_.and_true]
      exact ⟨fun x => rows_piece _ _ (384 * q.val) _ _ ho21 _ _ x, fun x => rows_piece _ _ (384 * q.val) _ _ ho20 _ _ x, fun x => rows_piece _ _ (384 * q.val) _ _ ho19 _ _ x, fun x => rows_piece _ _ (384 * q.val) _ _ ho18 _ _ x, fun x => rows_piece _ _ (384 * q.val) _ _ ho17 _ _ x, fun x => rows_piece _ _ (384 * q.val) _ _ ho16 _ _ x⟩
    · by_cases h : 384 * q.val ≤ (y 0).val ∧ (y 0).val < 384 * q.val + 384
      · left
        have hy := lt1536 y
        simp only [List.exists_mem_cons_iff, List.not_mem_nil, _root_.false_and, exists_false, _root_.or_false]
        rcases Nat.lt_or_ge (y 1).val 256 with h1 | h1
        · exact .inr (.inr (.inr (.inr (.inr ((mem_rows ho16 _ y h ⟨by omega, by omega⟩))))))
        rcases Nat.lt_or_ge (y 1).val 512 with h2 | h2
        · exact .inr (.inr (.inr (.inr (.inl (mem_rows ho17 _ y h ⟨by omega, by omega⟩)))))
        rcases Nat.lt_or_ge (y 1).val 768 with h3 | h3
        · exact .inr (.inr (.inr (.inl (mem_rows ho18 _ y h ⟨by omega, by omega⟩))))
        rcases Nat.lt_or_ge (y 1).val 1024 with h4 | h4
        · exact .inr (.inr (.inl (mem_rows ho19 _ y h ⟨by omega, by omega⟩)))
        rcases Nat.lt_or_ge (y 1).val 1280 with h5 | h5
        · exact .inr (.inl (mem_rows ho20 _ y h ⟨by omega, by omega⟩))
        · exact .inl (mem_rows ho21 _ y h ⟨by omega, by omega⟩)
      · right
        exact putRows_of_out _ _ _ y h
  · iexists _; isplitr; swap; · iexact H14
    ipureintro
    funext y
    refine read_writes_eq _ _ (pair (arg2.view.read (Elt F) f2 (ix1 0)) (k0_pay99 (arg9.view.read (Elt F) f9))) _ ?_ y (.inl ?_)
    swap; · exact View.cover_of_tiled (s := S2) _ S1.size (by rfl) y
    simp only [List.forall_mem_cons, List.not_mem_nil, false_imp_iff, implies_true, _root_.and_true]
    exact ⟨fun x => pair_piece _ _ _ 1 (by decide) (congrArg k0_pay99 e9) _ x, fun x => pair_piece _ _ _ 0 (by decide) (ld_first1 _ _ _) _ x⟩

set_option maxHeartbeats 1000000 in
/-- A step that handles one column block of the gradient. -/
theorem body_rows (c : Dev nD) (E : Set ℕ) (i : grid0.Coords) (h1 : ¬ c1 i = 1#1) (h2 : ¬ k0_cond2 i = 1#1) (h3 : ¬ k0_cond3 i = 1#1) (h4 : k0_cond4 i = 1#1) (h5 : ¬ c5 i = 1#1) (h6 : ¬ k0_cond6 i = 1#1) (h7 : ¬ k0_cond7 i = 1#1) (h8 : ¬ k0_cond8 i = 1#1)
    (q : Fin 9) (ho15 : k0_off15 i = ![0, 384 * q.val]) (ho16 : k0_off16 i = ![384 * q.val, 0]) (ho17 : k0_off17 i = ![384 * q.val, 256]) (ho18 : k0_off18 i = ![384 * q.val, 512]) (ho19 : k0_off19 i = ![384 * q.val, 768]) (ho20 : k0_off20 i = ![384 * q.val, 1024]) (ho21 : k0_off21 i = ![384 * q.val, 1280])
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x4 : Vec F S1536x384 .bf16) (x9 : Vec F S96x3456 .f32) (x10 : Vec F S3456x1536 .bf16) (x14 : Vec F S2 .f32) (K : PUnit → sProp 𝕄) :
    iprop(owns (c : Thread nD τ) arg4 fullShare (x4) ∗ (∃ d, owns (c : Thread nD τ) arg7 fullShare d) ∗ owns (c : Thread nD τ) arg9 fullShare (x9) ∗ owns (c : Thread nD τ) arg10 fullShare (x10) ∗ owns (c : Thread nD τ) arg14 fullShare (x14)
      ∗ (iprop(owns (c : Thread nD τ) arg4 fullShare (x4) ∗ owns (c : Thread nD τ) arg7 fullShare (k0_pay34 (colsA q x9) (x14 (ix1 1))) ∗ owns (c : Thread nD τ) arg9 fullShare (x9) ∗ owns (c : Thread nD τ) arg10 fullShare (putRows (384 * q.val) x4 x10) ∗ owns (c : Thread nD τ) arg14 fullShare (x14)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part7_eq_skeleton, k0_part7_skel, dif_neg h1, dif_neg h2, dif_neg h3, dif_pos h4, dif_neg h5, dif_neg h6, dif_neg h7, dif_neg h8]
  unfold owns
  iintro ⟨⟨%f4, %hf4, H4⟩, ⟨%d7, %f7, -, H7⟩, ⟨%f9, %hf9, H9⟩, ⟨%f10, %hf10, H10⟩, ⟨%f14, %hf14, H14⟩, Hk⟩
  subst hf4 hf9 hf10 hf14
  letI I16 : ClosedOff (k0_off16 i) := ⟨![384 * q.val, 0], ho16⟩
  letI I17 : ClosedOff (k0_off17 i) := ⟨![384 * q.val, 256], ho17⟩
  letI I18 : ClosedOff (k0_off18 i) := ⟨![384 * q.val, 512], ho18⟩
  letI I19 : ClosedOff (k0_off19 i) := ⟨![384 * q.val, 768], ho19⟩
  letI I20 : ClosedOff (k0_off20 i) := ⟨![384 * q.val, 1024], ho20⟩
  letI I21 : ClosedOff (k0_off21 i) := ⟨![384 * q.val, 1280], ho21⟩
  sl_exec
  sl_step
  iapply Hk
  isplitl [H4]
  · iexists f4; isplitr; · ipureintro; rfl
    iexact H4
  isplitl [H7]
  · iexists _; isplitr; swap; · iexact H7
    ipureintro
    refine (View.read_writes_eq_canon _ _ _ ?_).trans ?_
    · exact View.cover_of_tiled (s := S96x384) _ S96x384.size (by rfl)
    rw [View.canon_unit_zero (by decide)]
    exact congrArg₂ k0_pay34 (cols_ld _ q _ ho15 _) (ld_first2 (arg14.view.read (Elt F) f14) 1 (by decide) _ _)
  isplitl [H9]
  · iexists f9; isplitr; · ipureintro; rfl
    iexact H9
  isplitl [H10]
  · iexists _; isplitr; swap; · iexact H10
    ipureintro
    funext y
    refine read_writes_eq _ _ (putRows (384 * q.val) (arg4.view.read (Elt F) f4) (arg10.view.read (Elt F) f10)) _ ?_ y ?_
    · simp only [List.forall_mem_cons, List.not_mem_nil, false_imp_iff, implies_true, _root_.and_true]
      exact ⟨fun x => rows_piece _ _ (384 * q.val) _ _ ho21 _ _ x, fun x => rows_piece _ _ (384 * q.val) _ _ ho20 _ _ x, fun x => rows_piece _ _ (384 * q.val) _ _ ho19 _ _ x, fun x => rows_piece _ _ (384 * q.val) _ _ ho18 _ _ x, fun x => rows_piece _ _ (384 * q.val) _ _ ho17 _ _ x, fun x => rows_piece _ _ (384 * q.val) _ _ ho16 _ _ x⟩
    · by_cases h : 384 * q.val ≤ (y 0).val ∧ (y 0).val < 384 * q.val + 384
      · left
        have hy := lt1536 y
        simp only [List.exists_mem_cons_iff, List.not_mem_nil, _root_.false_and, exists_false, _root_.or_false]
        rcases Nat.lt_or_ge (y 1).val 256 with h1 | h1
        · exact .inr (.inr (.inr (.inr (.inr ((mem_rows ho16 _ y h ⟨by omega, by omega⟩))))))
        rcases Nat.lt_or_ge (y 1).val 512 with h2 | h2
        · exact .inr (.inr (.inr (.inr (.inl (mem_rows ho17 _ y h ⟨by omega, by omega⟩)))))
        rcases Nat.lt_or_ge (y 1).val 768 with h3 | h3
        · exact .inr (.inr (.inr (.inl (mem_rows ho18 _ y h ⟨by omega, by omega⟩))))
        rcases Nat.lt_or_ge (y 1).val 1024 with h4 | h4
        · exact .inr (.inr (.inl (mem_rows ho19 _ y h ⟨by omega, by omega⟩)))
        rcases Nat.lt_or_ge (y 1).val 1280 with h5 | h5
        · exact .inr (.inl (mem_rows ho20 _ y h ⟨by omega, by omega⟩))
        · exact .inl (mem_rows ho21 _ y h ⟨by omega, by omega⟩)
      · right
        exact putRows_of_out _ _ _ y h
  · iexists f14; isplitr; · ipureintro; rfl
    iexact H14

set_option maxHeartbeats 1000000 in
/-- The step that turns the first block of the activations. -/
theorem body_turn (c : Dev nD) (E : Set ℕ) (i : grid0.Coords) (h1 : ¬ c1 i = 1#1) (h2 : ¬ k0_cond2 i = 1#1) (h3 : ¬ k0_cond3 i = 1#1) (h4 : ¬ k0_cond4 i = 1#1) (h5 : c5 i = 1#1) (h6 : ¬ k0_cond6 i = 1#1) (h7 : ¬ k0_cond7 i = 1#1) (h8 : ¬ k0_cond8 i = 1#1)
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x5 : Vec F S1536x256 .bf16) (K : PUnit → sProp 𝕄) :
    iprop(owns (c : Thread nD τ) arg5 fullShare (x5) ∗ (∃ d, owns (c : Thread nD τ) arg11 fullShare d)
      ∗ (iprop(owns (c : Thread nD τ) arg5 fullShare (x5) ∗ owns (c : Thread nD τ) arg11 fullShare (xT x5)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part8_eq_skeleton, k0_part8_skel, k0_part9_eq_skeleton, k0_part9_skel, dif_neg h1, dif_neg h2, dif_neg h3, dif_neg h4, dif_pos h5, dif_neg h6, dif_neg h7, dif_neg h8]
  unfold owns
  iintro ⟨⟨%f5, %hf5, H5⟩, ⟨%d11, %f11, -, H11⟩, Hk⟩
  subst hf5
  sl_exec
  sl_step
  iapply Hk
  isplitl [H5]
  · iexists f5; isplitr; · ipureintro; rfl
    iexact H5
  · iexists _; isplitr; swap; · iexact H11
    ipureintro
    funext y
    refine read_writes_eq _ _ (xT (arg5.view.read (Elt F) f5)) _ ?_ y (.inl ?_)
    swap; · exact View.cover_of_tiled (s := S256x1536) _ S256x128.size (by rfl) y
    simp only [List.forall_mem_cons, List.not_mem_nil, false_imp_iff, implies_true, _root_.and_true]
    refine ⟨?_, ?_, ?_, ?_, ?_, ?_, ?_, ?_, ?_, ?_, ?_, ?_⟩ <;> exact fun x => fill_piece _ _ _ _ x

set_option maxHeartbeats 1000000 in
/-- An even step of the product phase: the product with the first buffer, the second filled. -/
theorem body_even (c : Dev nD) (E : Set ℕ) (i : grid0.Coords) (h1 : ¬ c1 i = 1#1) (h2 : ¬ k0_cond2 i = 1#1) (h3 : ¬ k0_cond3 i = 1#1) (h4 : ¬ k0_cond4 i = 1#1) (h5 : ¬ c5 i = 1#1) (h6 : k0_cond6 i = 1#1) (h7 : ¬ k0_cond7 i = 1#1) (h8 : ¬ k0_cond8 i = 1#1)
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x5 : Vec F S1536x256 .bf16) (x10 : Vec F S3456x1536 .bf16) (x11 : Vec F S256x1536 .bf16) (x14 : Vec F S2 .f32) (K : PUnit → sProp 𝕄) :
    iprop(owns (c : Thread nD τ) arg5 fullShare (x5) ∗ (∃ d, owns (c : Thread nD τ) arg6 fullShare d) ∗ owns (c : Thread nD τ) arg10 fullShare (x10) ∗ owns (c : Thread nD τ) arg11 fullShare (x11) ∗ (∃ d, owns (c : Thread nD τ) arg12 fullShare d) ∗ owns (c : Thread nD τ) arg14 fullShare (x14)
      ∗ (iprop(owns (c : Thread nD τ) arg5 fullShare (x5) ∗ owns (c : Thread nD τ) arg6 fullShare (outv (k0_pay51 (x14 (ix1 1)) (x14 (ix1 0))) x11 x10) ∗ owns (c : Thread nD τ) arg10 fullShare (x10) ∗ owns (c : Thread nD τ) arg11 fullShare (x11) ∗ owns (c : Thread nD τ) arg12 fullShare (xT x5) ∗ owns (c : Thread nD τ) arg14 fullShare (x14)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part10_eq_skeleton, k0_part10_skel, k0_part11_eq_skeleton, k0_part11_skel, k0_part12_eq_skeleton, k0_part12_skel, dif_neg h1, dif_neg h2, dif_neg h3, dif_neg h4, dif_neg h5, dif_pos h6, dif_neg h7, dif_neg h8]
  unfold owns
  iintro ⟨⟨%f5, %hf5, H5⟩, ⟨%d6, %f6, -, H6⟩, ⟨%f10, %hf10, H10⟩, ⟨%f11, %hf11, H11⟩, ⟨%d12, %f12, -, H12⟩, ⟨%f14, %hf14, H14⟩, Hk⟩
  subst hf5 hf10 hf11 hf14
  sl_exec
  sl_step
  iapply Hk
  isplitl [H5]
  · iexists f5; isplitr; · ipureintro; rfl
    iexact H5
  isplitl [H6]
  · iexists _; isplitr; swap; · iexact H6
    ipureintro
    refine (View.read_writes_eq_canon _ _ _ ?_).trans ?_
    · exact View.cover_of_tiled (s := S3456x256) _ S432x256.size (by rfl)
    unfold outv
    have e0 : View.readAt (Elt F) arg11.view (Rect.unit (s := S256x1536) ![0, 0] S256x1536.size inb_S256x1536_S256x1536_0_0).toLoadRect f11 = arg11.view.read (Elt F) f11 :=
      View.ld_unit_lit _ _ (by decide)
    have e1 : k0_pay51 (View.readAt (Elt F) arg14.view (Rect.unit (s := S2) ![1] S1.size inb_S2_S1_1).toLoadRect f14 (Shape.Idx.first (numel1_S1.symm ▸ Nat.one_pos)))
        (View.readAt (Elt F) arg14.view (Rect.unit (s := S2) ![0] S1.size inb_S2_S1_0).toLoadRect f14 (Shape.Idx.first (numel1_S1.symm ▸ Nat.one_pos)))
        = k0_pay51 (arg14.view.read (Elt F) f14 (ix1 1)) (arg14.view.read (Elt F) f14 (ix1 0)) :=
      congrArg₂ k0_pay51 (ld_first2 (arg14.view.read (Elt F) f14) 1 (by decide) _ _) (ld_first2 (arg14.view.read (Elt F) f14) 0 (by decide) _ _)
    rw [← e0, ← e1]
    rfl
  isplitl [H10]
  · iexists f10; isplitr; · ipureintro; rfl
    iexact H10
  isplitl [H11]
  · iexists f11; isplitr; · ipureintro; rfl
    iexact H11
  isplitl [H12]
  · iexists _; isplitr; swap; · iexact H12
    ipureintro
    funext y
    refine read_writes_eq _ _ (xT (arg5.view.read (Elt F) f5)) _ ?_ y (.inl ?_)
    swap; · exact View.cover_of_tiled (s := S256x1536) _ S256x128.size (by rfl) y
    simp only [List.forall_mem_cons, List.not_mem_nil, false_imp_iff, implies_true, _root_.and_true]
    refine ⟨?_, ?_, ?_, ?_, ?_, ?_, ?_, ?_, ?_, ?_, ?_, ?_⟩ <;> exact fun x => fill_piece _ _ _ _ x
  · iexists f14; isplitr; · ipureintro; rfl
    iexact H14

set_option maxHeartbeats 1000000 in
/-- An odd step of the product phase: the product with the second buffer, the first filled. -/
theorem body_odd (c : Dev nD) (E : Set ℕ) (i : grid0.Coords) (h1 : ¬ c1 i = 1#1) (h2 : ¬ k0_cond2 i = 1#1) (h3 : ¬ k0_cond3 i = 1#1) (h4 : ¬ k0_cond4 i = 1#1) (h5 : ¬ c5 i = 1#1) (h6 : ¬ k0_cond6 i = 1#1) (h7 : k0_cond7 i = 1#1) (h8 : ¬ k0_cond8 i = 1#1)
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x5 : Vec F S1536x256 .bf16) (x10 : Vec F S3456x1536 .bf16) (x12 : Vec F S256x1536 .bf16) (x14 : Vec F S2 .f32) (K : PUnit → sProp 𝕄) :
    iprop(owns (c : Thread nD τ) arg5 fullShare (x5) ∗ (∃ d, owns (c : Thread nD τ) arg6 fullShare d) ∗ owns (c : Thread nD τ) arg10 fullShare (x10) ∗ (∃ d, owns (c : Thread nD τ) arg11 fullShare d) ∗ owns (c : Thread nD τ) arg12 fullShare (x12) ∗ owns (c : Thread nD τ) arg14 fullShare (x14)
      ∗ (iprop(owns (c : Thread nD τ) arg5 fullShare (x5) ∗ owns (c : Thread nD τ) arg6 fullShare (outv (k0_pay51 (x14 (ix1 1)) (x14 (ix1 0))) x12 x10) ∗ owns (c : Thread nD τ) arg10 fullShare (x10) ∗ owns (c : Thread nD τ) arg11 fullShare (xT x5) ∗ owns (c : Thread nD τ) arg12 fullShare (x12) ∗ owns (c : Thread nD τ) arg14 fullShare (x14)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part13_eq_skeleton, k0_part13_skel, k0_part14_eq_skeleton, k0_part14_skel, k0_part15_eq_skeleton, k0_part15_skel, dif_neg h1, dif_neg h2, dif_neg h3, dif_neg h4, dif_neg h5, dif_neg h6, dif_pos h7, dif_neg h8]
  unfold owns
  iintro ⟨⟨%f5, %hf5, H5⟩, ⟨%d6, %f6, -, H6⟩, ⟨%f10, %hf10, H10⟩, ⟨%d11, %f11, -, H11⟩, ⟨%f12, %hf12, H12⟩, ⟨%f14, %hf14, H14⟩, Hk⟩
  subst hf5 hf10 hf12 hf14
  sl_exec
  sl_step
  iapply Hk
  isplitl [H5]
  · iexists f5; isplitr; · ipureintro; rfl
    iexact H5
  isplitl [H6]
  · iexists _; isplitr; swap; · iexact H6
    ipureintro
    refine (View.read_writes_eq_canon _ _ _ ?_).trans ?_
    · exact View.cover_of_tiled (s := S3456x256) _ S432x256.size (by rfl)
    unfold outv
    have e0 : View.readAt (Elt F) arg12.view (Rect.unit (s := S256x1536) ![0, 0] S256x1536.size inb_S256x1536_S256x1536_0_0).toLoadRect f12 = arg12.view.read (Elt F) f12 :=
      View.ld_unit_lit _ _ (by decide)
    have e1 : k0_pay51 (View.readAt (Elt F) arg14.view (Rect.unit (s := S2) ![1] S1.size inb_S2_S1_1).toLoadRect f14 (Shape.Idx.first (numel1_S1.symm ▸ Nat.one_pos)))
        (View.readAt (Elt F) arg14.view (Rect.unit (s := S2) ![0] S1.size inb_S2_S1_0).toLoadRect f14 (Shape.Idx.first (numel1_S1.symm ▸ Nat.one_pos)))
        = k0_pay51 (arg14.view.read (Elt F) f14 (ix1 1)) (arg14.view.read (Elt F) f14 (ix1 0)) :=
      congrArg₂ k0_pay51 (ld_first2 (arg14.view.read (Elt F) f14) 1 (by decide) _ _) (ld_first2 (arg14.view.read (Elt F) f14) 0 (by decide) _ _)
    rw [← e0, ← e1]
    rfl
  isplitl [H10]
  · iexists f10; isplitr; · ipureintro; rfl
    iexact H10
  isplitl [H11]
  · iexists _; isplitr; swap; · iexact H11
    ipureintro
    funext y
    refine read_writes_eq _ _ (xT (arg5.view.read (Elt F) f5)) _ ?_ y (.inl ?_)
    swap; · exact View.cover_of_tiled (s := S256x1536) _ S256x128.size (by rfl) y
    simp only [List.forall_mem_cons, List.not_mem_nil, false_imp_iff, implies_true, _root_.and_true]
    refine ⟨?_, ?_, ?_, ?_, ?_, ?_, ?_, ?_, ?_, ?_, ?_, ?_⟩ <;> exact fun x => fill_piece _ _ _ _ x
  isplitl [H12]
  · iexists f12; isplitr; · ipureintro; rfl
    iexact H12
  · iexists f14; isplitr; · ipureintro; rfl
    iexact H14

set_option maxHeartbeats 1000000 in
/-- The last step: the product with the second buffer. -/
theorem body_last (c : Dev nD) (E : Set ℕ) (i : grid0.Coords) (h1 : ¬ c1 i = 1#1) (h2 : ¬ k0_cond2 i = 1#1) (h3 : ¬ k0_cond3 i = 1#1) (h4 : ¬ k0_cond4 i = 1#1) (h5 : ¬ c5 i = 1#1) (h6 : ¬ k0_cond6 i = 1#1) (h7 : ¬ k0_cond7 i = 1#1) (h8 : k0_cond8 i = 1#1)
    (arg1 : Memref sig .tc .smem S16 .f32) (harg1 : arg1.IsWhole) (arg2 : Memref sig .tc .smem S1 .f32) (harg2 : arg2.IsWhole) (arg3 : Memref sig .tc .vmem S256x3456 .bf16) (harg3 : arg3.IsWhole) (arg4 : Memref sig .tc .vmem S1536x384 .bf16) (harg4 : arg4.IsWhole) (arg5 : Memref sig .tc .vmem S1536x256 .bf16) (harg5 : arg5.IsWhole) (arg6 : Memref sig .tc .vmem S3456x256 .f32) (harg6 : arg6.IsWhole) (arg7 : Memref sig .tc .vmem S96x384 .fp8e4m3) (harg7 : arg7.IsWhole) (arg8 : Memref sig .tc .smem S1 .f32) (harg8 : arg8.IsWhole) (arg9 : Memref sig .tc .vmem S96x3456 .f32) (harg9 : arg9.IsWhole) (arg10 : Memref sig .tc .vmem S3456x1536 .bf16) (harg10 : arg10.IsWhole) (arg11 : Memref sig .tc .vmem S256x1536 .bf16) (harg11 : arg11.IsWhole) (arg12 : Memref sig .tc .vmem S256x1536 .bf16) (harg12 : arg12.IsWhole) (arg13 : Memref sig .tc .vmem S256x256 .bf16) (harg13 : arg13.IsWhole) (arg14 : Memref sig .tc .smem S2 .f32) (harg14 : arg14.IsWhole)
    (x10 : Vec F S3456x1536 .bf16) (x12 : Vec F S256x1536 .bf16) (x14 : Vec F S2 .f32) (K : PUnit → sProp 𝕄) :
    iprop((∃ d, owns (c : Thread nD τ) arg6 fullShare d) ∗ owns (c : Thread nD τ) arg10 fullShare (x10) ∗ owns (c : Thread nD τ) arg12 fullShare (x12) ∗ owns (c : Thread nD τ) arg14 fullShare (x14)
      ∗ (iprop(owns (c : Thread nD τ) arg6 fullShare (outv (k0_pay51 (x14 (ix1 1)) (x14 (ix1 0))) x12 x10) ∗ owns (c : Thread nD τ) arg10 fullShare (x10) ∗ owns (c : Thread nD τ) arg12 fullShare (x12) ∗ owns (c : Thread nD τ) arg14 fullShare (x14)) -∗ K ⟨⟩))
      ⊢ wp frame (wpE (defs₀ (F := F)) Variants.none c none) E (cc0_nvfp4_wgrad i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_nvfp4_wgrad_eq_skeleton, cc0_nvfp4_wgrad_skel, k0_part17_eq_skeleton, k0_part17_skel, k0_part16_eq_skeleton, k0_part16_skel, dif_neg h1, dif_neg h2, dif_neg h3, dif_neg h4, dif_neg h5, dif_neg h6, dif_neg h7, dif_pos h8]
  unfold owns
  iintro ⟨⟨%d6, %f6, -, H6⟩, ⟨%f10, %hf10, H10⟩, ⟨%f12, %hf12, H12⟩, ⟨%f14, %hf14, H14⟩, Hk⟩
  subst hf10 hf12 hf14
  sl_exec
  sl_step
  iapply Hk
  isplitl [H6]
  · iexists _; isplitr; swap; · iexact H6
    ipureintro
    refine (View.read_writes_eq_canon _ _ _ ?_).trans ?_
    · exact View.cover_of_tiled (s := S3456x256) _ S432x256.size (by rfl)
    unfold outv
    have e0 : View.readAt (Elt F) arg12.view (Rect.unit (s := S256x1536) ![0, 0] S256x1536.size inb_S256x1536_S256x1536_0_0).toLoadRect f12 = arg12.view.read (Elt F) f12 :=
      View.ld_unit_lit _ _ (by decide)
    have e1 : k0_pay51 (View.readAt (Elt F) arg14.view (Rect.unit (s := S2) ![1] S1.size inb_S2_S1_1).toLoadRect f14 (Shape.Idx.first (numel1_S1.symm ▸ Nat.one_pos)))
        (View.readAt (Elt F) arg14.view (Rect.unit (s := S2) ![0] S1.size inb_S2_S1_0).toLoadRect f14 (Shape.Idx.first (numel1_S1.symm ▸ Nat.one_pos)))
        = k0_pay51 (arg14.view.read (Elt F) f14 (ix1 1)) (arg14.view.read (Elt F) f14 (ix1 0)) :=
      congrArg₂ k0_pay51 (ld_first2 (arg14.view.read (Elt F) f14) 1 (by decide) _ _) (ld_first2 (arg14.view.read (Elt F) f14) 0 (by decide) _ _)
    rw [← e0, ← e1]
    rfl
  isplitl [H10]
  · iexists f10; isplitr; · ipureintro; rfl
    iexact H10
  isplitl [H12]
  · iexists f12; isplitr; · ipureintro; rfl
    iexact H12
  · iexists f14; isplitr; · ipureintro; rfl
    iexact H14

end Cert.Proof.KI
-- ==== Proof.Run.lean ====
module
public import proofs.«01_k».proof.Proof.Body
public import proofs.«01_k».proof.Proof.Gen.KernelIdeal.Launch
public import proofs.«01_k».proof.Proof.Gen.KernelIdeal.Points
public import Idealize.ShloMosaic.Lib.Pipeline.TableIdle
@[expose] public section
set_option maxRecDepth 16384
noncomputable section
namespace Cert.Proof.KI
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-! ## The grid -/

/-- The grid's point number `k`. -/
def pt (k : ℕ) : Fin cfg0.N := ⟨min k 35, Nat.lt_of_le_of_lt (Nat.min_le_right _ _) (by decide)⟩

theorem lt36 (t : Fin cfg0.N) : t.val < 36 := lt_of_lt_of_eq t.isLt N_0

theorem c1_iff : ∀ t : Fin grid0.N, c1 (grid0.coords t) = 1#1 ↔ t.val = 0 := by decide +kernel
theorem c2_iff : ∀ t : Fin grid0.N, k0_cond2 (grid0.coords t) = 1#1 ↔ t.val < 6 := by decide +kernel
theorem c3_iff : ∀ t : Fin grid0.N, k0_cond3 (grid0.coords t) = 1#1 ↔ t.val = 6 := by decide +kernel
theorem c4_iff : ∀ t : Fin grid0.N, k0_cond4 (grid0.coords t) = 1#1 ↔ 6 ≤ t.val ∧ t.val < 15 := by decide +kernel
theorem c5_iff : ∀ t : Fin grid0.N, c5 (grid0.coords t) = 1#1 ↔ t.val = 15 := by decide +kernel
theorem c6_iff : ∀ t : Fin grid0.N, k0_cond6 (grid0.coords t) = 1#1 ↔ 16 ≤ t.val ∧ t.val % 2 = 0 := by decide +kernel
theorem c7_iff : ∀ t : Fin grid0.N, k0_cond7 (grid0.coords t) = 1#1 ↔ 16 ≤ t.val ∧ t.val < 35 ∧ t.val % 2 = 1 := by decide +kernel
theorem c8_iff : ∀ t : Fin grid0.N, k0_cond8 (grid0.coords t) = 1#1 ↔ t.val = 35 := by decide +kernel
theorem idle5_iff : ∀ t : Fin grid0.N, idle0 5 (grid0.coords t) = true ↔ t.val < 16 := by decide +kernel
theorem idle6_iff : ∀ t : Fin grid0.N, idle0 6 (grid0.coords t) = true ↔ (t.val < 6 ∨ 15 ≤ t.val) := by decide +kernel
theorem idle7_iff : ∀ t : Fin grid0.N, idle0 7 (grid0.coords t) = true ↔ t.val ≠ 6 := by decide +kernel

/-- The number of the column block of step `k`. -/
def qn (k : ℕ) : Fin 9 := ⟨min (k - 6) 8, by omega⟩
theorem qn_val {k : ℕ} (h : k < 15) : (qn k).val = k - 6 := by show min (k - 6) 8 = _; omega
theorem off1_eq : ∀ t : Fin grid0.N, t.val < 6 → k0_off1 (grid0.coords t) = ![16 * t.val, 0] := by decide +kernel
theorem off2_eq : ∀ t : Fin grid0.N, t.val < 6 → k0_off2 (grid0.coords t) = ![16 * t.val, 256] := by decide +kernel
theorem off3_eq : ∀ t : Fin grid0.N, t.val < 6 → k0_off3 (grid0.coords t) = ![16 * t.val, 512] := by decide +kernel
theorem off4_eq : ∀ t : Fin grid0.N, t.val < 6 → k0_off4 (grid0.coords t) = ![16 * t.val, 768] := by decide +kernel
theorem off5_eq : ∀ t : Fin grid0.N, t.val < 6 → k0_off5 (grid0.coords t) = ![16 * t.val, 1024] := by decide +kernel
theorem off6_eq : ∀ t : Fin grid0.N, t.val < 6 → k0_off6 (grid0.coords t) = ![16 * t.val, 1280] := by decide +kernel
theorem off7_eq : ∀ t : Fin grid0.N, t.val < 6 → k0_off7 (grid0.coords t) = ![16 * t.val, 1536] := by decide +kernel
theorem off8_eq : ∀ t : Fin grid0.N, t.val < 6 → k0_off8 (grid0.coords t) = ![16 * t.val, 1792] := by decide +kernel
theorem off9_eq : ∀ t : Fin grid0.N, t.val < 6 → k0_off9 (grid0.coords t) = ![16 * t.val, 2048] := by decide +kernel
theorem off10_eq : ∀ t : Fin grid0.N, t.val < 6 → k0_off10 (grid0.coords t) = ![16 * t.val, 2304] := by decide +kernel
theorem off11_eq : ∀ t : Fin grid0.N, t.val < 6 → k0_off11 (grid0.coords t) = ![16 * t.val, 2560] := by decide +kernel
theorem off12_eq : ∀ t : Fin grid0.N, t.val < 6 → k0_off12 (grid0.coords t) = ![16 * t.val, 2816] := by decide +kernel
theorem off13_eq : ∀ t : Fin grid0.N, t.val < 6 → k0_off13 (grid0.coords t) = ![16 * t.val, 3072] := by decide +kernel
theorem off14_eq : ∀ t : Fin grid0.N, t.val < 6 → k0_off14 (grid0.coords t) = ![16 * t.val, 3328] := by decide +kernel
theorem off15_eq : ∀ t : Fin grid0.N, 6 ≤ t.val → t.val < 15 → k0_off15 (grid0.coords t) = ![0, 384 * (qn t.val).val] := by decide +kernel
theorem off16_eq : ∀ t : Fin grid0.N, 6 ≤ t.val → t.val < 15 → k0_off16 (grid0.coords t) = ![384 * (qn t.val).val, 0] := by decide +kernel
theorem off17_eq : ∀ t : Fin grid0.N, 6 ≤ t.val → t.val < 15 → k0_off17 (grid0.coords t) = ![384 * (qn t.val).val, 256] := by decide +kernel
theorem off18_eq : ∀ t : Fin grid0.N, 6 ≤ t.val → t.val < 15 → k0_off18 (grid0.coords t) = ![384 * (qn t.val).val, 512] := by decide +kernel
theorem off19_eq : ∀ t : Fin grid0.N, 6 ≤ t.val → t.val < 15 → k0_off19 (grid0.coords t) = ![384 * (qn t.val).val, 768] := by decide +kernel
theorem off20_eq : ∀ t : Fin grid0.N, 6 ≤ t.val → t.val < 15 → k0_off20 (grid0.coords t) = ![384 * (qn t.val).val, 1024] := by decide +kernel
theorem off21_eq : ∀ t : Fin grid0.N, 6 ≤ t.val → t.val < 15 → k0_off21 (grid0.coords t) = ![384 * (qn t.val).val, 1280] := by decide +kernel
theorem flush5_iff : ∀ t : Fin cfg0.N, (cfg0.win 5).flush t = true ↔ 16 ≤ t.val :=
  (by decide +kernel : ∀ t : Fin grid0.N, win0_5.flush t = true ↔ 16 ≤ t.val)
theorem flush6_iff : ∀ t : Fin cfg0.N, (cfg0.win 6).flush t = true ↔ ((6 ≤ t.val ∧ t.val < 14) ∨ t.val = 35) :=
  (by decide +kernel : ∀ t : Fin grid0.N, win0_6.flush t = true ↔ ((6 ≤ t.val ∧ t.val < 14) ∨ t.val = 35))
theorem flush7_iff : ∀ t : Fin cfg0.N, (cfg0.win 7).flush t = true ↔ t.val = 35 :=
  (by decide +kernel : ∀ t : Fin grid0.N, win0_7.flush t = true ↔ t.val = 35)

theorem fresh6 : ∀ n, n ≤ cfg0.N → cfg0.fresh 6 n = decide (n < 15 ∨ 35 < n) :=
  Pipeline.Cfg.fresh_tab cfg0 6 (fun n => decide (n < 15 ∨ 35 < n)) (by decide)
    (by decide +kernel : ∀ t : Fin grid0.N, decide (t.val + 1 < 15 ∨ 35 < t.val + 1) = (win0_6.flush t || (idle0 6 (grid0.coords t) && decide (t.val < 15 ∨ 35 < t.val))))
theorem fresh7 : ∀ n, n ≤ cfg0.N → cfg0.fresh 7 n = decide (n < 7 ∨ 35 < n) :=
  Pipeline.Cfg.fresh_tab cfg0 7 (fun n => decide (n < 7 ∨ 35 < n)) (by decide)
    (by decide +kernel : ∀ t : Fin grid0.N, decide (t.val + 1 < 7 ∨ 35 < t.val + 1) = (win0_7.flush t || (idle0 7 (grid0.coords t) && decide (t.val < 7 ∨ 35 < t.val))))

/-! ## What the buffers hold -/

/-- The blocks staged at point `t`: the signs, the scale of the activations, the gradient's rows, the quantised gradient's
    columns, the activations' columns. -/
def sgB (c : Dev nD) (t : Fin cfg0.N) : Vec F S16 .f32 := iblk m c 0 t
def xsB (c : Dev nD) (t : Fin cfg0.N) : Vec F S1 .f32 := iblk m c 1 t
def gB (c : Dev nD) (t : Fin cfg0.N) : Vec F S256x3456 .bf16 := iblk m c 2 t
def dyB (c : Dev nD) (t : Fin cfg0.N) : Vec F S1536x384 .bf16 := iblk m c 3 t
def xB (c : Dev nD) (t : Fin cfg0.N) : Vec F S1536x256 .bf16 := iblk m c 4 t

/-- The rotation, as the first step builds it. -/
def rpF (c : Dev nD) : Vec F S256x256 .bf16 := rpM (fun k => sgB m c (pt 0) (ix1 k))

/-- The block maxima, as the first six steps leave them. -/
def adyF (c : Dev nD) : Vec F S96x3456 .f32 := fun y => amaxB (rpF m c) (gB m c (pt ((y 0).val / 16))) ⟨(y 0).val % 16, Nat.mod_lt _ (by decide)⟩ (y 1)

/-- The gradient turned, as the nine steps of phase B leave it. -/
def dyF (c : Dev nD) : Vec F S3456x1536 .bf16 := fun y => dyB m c (pt (6 + (y 0).val / 384)) (ix2 (y 1) ⟨(y 0).val % 384, Nat.mod_lt _ (by decide)⟩)

/-- The pair of scales, as the first step of phase B leaves it. -/
def stF (c : Dev nD) : Vec F S2 .f32 := pair (xsB m c (pt 6) (ix1 0)) (k0_pay99 (adyF m c))

/-- The turned block of the activations of step `k`. -/
def xF (c : Dev nD) (k : ℕ) : Vec F S256x1536 .bf16 := xT (xB m c (pt k))

/-- The block of the product that step `t` of phase C leaves. -/
def dwB (c : Dev nD) (t : ℕ) : Vec F S3456x256 .f32 := outv (k0_pay51 (stF m c (ix1 1)) (stF m c (ix1 0))) (xF m c (t - 1)) (dyF m c)

/-- The block of the block scales that step `t` leaves or keeps. -/
def sbB (c : Dev nD) (t : ℕ) : Vec F S96x384 .fp8e4m3 := k0_pay34 (colsA (qn t) (adyF m c)) (k0_pay99 (adyF m c))

/-- The gradient's scale. -/
def tsB (c : Dev nD) : Vec F S1 .f32 := fun _ => k0_pay99 (adyF m c)

/-- What the six scratch buffers hold before point `n`. -/
structure Inv (c : Dev nD) (n : ℕ) (X9 : Vec F S96x3456 .f32) (X10 : Vec F S3456x1536 .bf16) (X11 X12 : Vec F S256x1536 .bf16) (X13 : Vec F S256x256 .bf16) (X14 : Vec F S2 .f32) : Prop where
  maxima : ∀ y : S96x3456.Idx, (y 0).val < 16 * min n 6 → X9 y = adyF m c y
  rows : ∀ y : S3456x1536.Idx, (y 0).val < 384 * min (n - 6) 9 → X10 y = dyF m c y
  even : 16 ≤ n → n ≤ 35 → n % 2 = 0 → X11 = xF m c (n - 1)
  odd : 16 ≤ n → n ≤ 35 → n % 2 = 1 → X12 = xF m c (n - 1)
  rot : 1 ≤ n → X13 = rpF m c
  scales : 7 ≤ n → X14 = stF m c

def PhiN (c : Dev nD) (n : ℕ) : sProp 𝕄 :=
  iprop((∃ X9 X10 X11 X12 X13 X14, ⌜Inv m c n X9 X10 X11 X12 X13 X14⌝ ∗ owns (c : Thread nD τ) (Memref.whole cc0_scratch0) fullShare X9 ∗ owns (c : Thread nD τ) (Memref.whole cc0_scratch1) fullShare X10
    ∗ owns (c : Thread nD τ) (Memref.whole cc0_scratch2) fullShare X11 ∗ owns (c : Thread nD τ) (Memref.whole cc0_scratch3) fullShare X12
    ∗ owns (c : Thread nD τ) (Memref.whole cc0_scratch4) fullShare X13 ∗ owns (c : Thread nD τ) (Memref.whole cc0_scratch5) fullShare X14) ∗ ∃ r, prngReg c r)

/-- The proof data: inputs at their blocks, the results at their values, the scratch tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dwB m c t.val
    | ⟨6, _⟩ => sbB m c t.val
    | ⟨7, _⟩ => tsB m c
    | ⟨_ + 8, h⟩ => absurd h (Nat.not_lt.2 (Nat.le_add_left _ _))
  Φ t := PhiN m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dwB m c t.val := by dsimp only [dats]
theorem after0_6 (c : Dev nD) (t : Fin cfg0.N) : (dats m 0 c).after 6 t = sbB m c t.val := by dsimp only [dats]
theorem after0_7 (c : Dev nD) (t : Fin cfg0.N) : (dats m 0 c).after 7 t = tsB m c := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

theorem before0_6 (c : Dev nD) (t : Fin cfg0.N) (h : 15 ≤ t.val) (d) : (dats m 0 c).before 6 t d = sbB m c t.val := by
  have ht := lt36 t
  rw [(dats m 0 c).before_out_traj 6 rfl (fun _ _ => rfl) (fun s hs _ hf => ?_) t.val t rfl d, fresh6 _ (Nat.le_of_lt t.isLt), if_neg (by simp; omega), after0_6]
  · have e : qn (t.val - 1) = qn t.val := Fin.ext (by show min (t.val - 1 - 6) 8 = min (t.val - 6) 8; omega)
    unfold sbB
    rw [e]
  · rw [fresh6 _ (Nat.le_of_lt s.isLt)] at hf
    have hs' : 15 ≤ s.val := by simp at hf; omega
    rw [after0_6, after0_6]
    have e : qn (s.val - 1) = qn s.val := Fin.ext (by show min (s.val - 1 - 6) 8 = min (s.val - 6) 8; omega)
    unfold sbB
    rw [e]
theorem before0_7 (c : Dev nD) (t : Fin cfg0.N) (h : 7 ≤ t.val) (d) : (dats m 0 c).before 7 t d = tsB m c := by
  have ht := lt36 t
  rw [(dats m 0 c).before_out_traj 7 rfl (fun _ _ => rfl) (fun s hs _ hf => ?_) t.val t rfl d, fresh7 _ (Nat.le_of_lt t.isLt), if_neg (by simp; omega), after0_7]
  rw [after0_7, after0_7]

/-! ## The steps keep the invariant -/

theorem pt_val (t : Fin cfg0.N) : pt t.val = t := Fin.ext (Nat.min_eq_left (Nat.le_of_lt_succ (lt36 t)))

theorem maxima_step (c : Dev nD) (t : Fin cfg0.N) (h : t.val < 6) (X9 : Vec F S96x3456 .f32) (R : Vec F S256x256 .bf16) (hR : R = rpF m c)
    (I : ∀ y : S96x3456.Idx, (y 0).val < 16 * min t.val 6 → X9 y = adyF m c y) (y : S96x3456.Idx) (hy : (y 0).val < 16 * min (t.val + 1) 6) :
    putA ⟨t.val, h⟩ (amaxB R (gB m c t)) X9 y = adyF m c y := by
  subst hR
  by_cases hb : 16 * t.val ≤ (y 0).val ∧ (y 0).val < 16 * t.val + 16
  · unfold putA adyF
    rw [dif_pos (show _ ∧ _ from hb)]
    have hq : (y 0).val / 16 = t.val := by omega
    have hr : (y 0).val % 16 = (y 0).val - 16 * t.val := by omega
    have hp : pt ((y 0).val / 16) = t := by rw [hq, pt_val]
    rw [hp]
    exact congrArg (fun a => amaxB (rpF m c) (gB m c t) a (y 1)) (Fin.ext hr.symm)
  · rw [putA_of_out _ _ _ _ hb]
    exact I y (by omega)

theorem inv_start (c : Dev nD) (t : Fin cfg0.N) (h : t.val = 0) (h' : t.val < 6) (X9 X10 X11 X12 X13 X14) (I : Inv m c t.val X9 X10 X11 X12 X13 X14) :
    Inv m c (t.val + 1) (putA ⟨t.val, h'⟩ (amaxB (rpM (fun k => sgB m c t (ix1 k))) (gB m c t)) X9) X10 X11 X12 (rpM (fun k => sgB m c t (ix1 k))) X14 where
  maxima y hy := maxima_step m c t h' X9 _ (by rw [show t = pt 0 from Fin.ext h]; rfl) I.maxima y hy
  rows y hy := by omega
  even h _ _ := by omega
  odd h _ _ := by omega
  rot _ := by rw [show t = pt 0 from Fin.ext h]; rfl
  scales h := by omega

theorem inv_amax (c : Dev nD) (t : Fin cfg0.N) (h : 1 ≤ t.val) (h' : t.val < 6) (X9 X10 X11 X12 X13 X14) (I : Inv m c t.val X9 X10 X11 X12 X13 X14) :
    Inv m c (t.val + 1) (putA ⟨t.val, h'⟩ (amaxB X13 (gB m c t)) X9) X10 X11 X12 X13 X14 where
  maxima y hy := maxima_step m c t h' X9 _ (I.rot h) I.maxima y hy
  rows y hy := by omega
  even h _ _ := by omega
  odd h _ _ := by omega
  rot _ := I.rot h
  scales h := by omega

theorem rows_step (c : Dev nD) (t : Fin cfg0.N) (h : 6 ≤ t.val) (h' : t.val < 15) (X6 : Vec F S3456x1536 .bf16)
    (I : ∀ y : S3456x1536.Idx, (y 0).val < 384 * min (t.val - 6) 9 → X6 y = dyF m c y) (y : S3456x1536.Idx) (hy : (y 0).val < 384 * min (t.val + 1 - 6) 9) :
    putRows (384 * (qn t.val).val) (dyB m c t) X6 y = dyF m c y := by
  rw [qn_val h']
  by_cases hb : 384 * (t.val - 6) ≤ (y 0).val ∧ (y 0).val < 384 * (t.val - 6) + 384
  · unfold putRows dyF
    rw [dif_pos hb]
    have hq : (y 0).val / 384 = t.val - 6 := by omega
    have hr : (y 0).val % 384 = (y 0).val - 384 * (t.val - 6) := by omega
    have hp : pt (6 + (y 0).val / 384) = t := Fin.ext (by show min _ 35 = _; omega)
    rw [hp]
    exact congrArg (dyB m c t) (congrArg (ix2 (y 1)) (Fin.ext hr.symm))
  · rw [putRows_of_out _ _ _ _ hb]
    exact I y (by omega)

theorem full_maxima (c : Dev nD) (n : ℕ) (h : 6 ≤ n) (X9 X10 X11 X12 X13 X14) (I : Inv m c n X9 X10 X11 X12 X13 X14) : X9 = adyF m c :=
  funext fun y => I.maxima y (by have : (y 0).val < 96 := (y 0).isLt; omega)

theorem inv_rows (c : Dev nD) (t : Fin cfg0.N) (h : 7 ≤ t.val) (h' : t.val < 15) (X9 X10 X11 X12 X13 X14) (I : Inv m c t.val X9 X10 X11 X12 X13 X14) :
    Inv m c (t.val + 1) X9 (putRows (384 * (qn t.val).val) (dyB m c t) X10) X11 X12 X13 X14 where
  maxima y hy := I.maxima y (by omega)
  rows y hy := rows_step m c t (by omega) h' X10 I.rows y hy
  even _ _ _ := by omega
  odd _ _ _ := by omega
  rot _ := I.rot (by omega)
  scales _ := I.scales (by omega)

theorem inv_first (c : Dev nD) (t : Fin cfg0.N) (h : t.val = 6) (X9 X10 X11 X12 X13 X14) (I : Inv m c t.val X9 X10 X11 X12 X13 X14) :
    Inv m c (t.val + 1) X9 (putRows (384 * (qn t.val).val) (dyB m c t) X10) X11 X12 X13 (pair (xsB m c t (ix1 0)) (k0_pay99 X9)) where
  maxima y hy := I.maxima y (by omega)
  rows y hy := rows_step m c t (by omega) (by omega) X10 I.rows y hy
  even _ _ _ := by omega
  odd _ _ _ := by omega
  rot _ := I.rot (by omega)
  scales _ := by rw [show t = pt 6 from Fin.ext h, full_maxima m c t.val (by omega) X9 X10 X11 X12 X13 X14 I]; rfl

theorem inv_turn (c : Dev nD) (t : Fin cfg0.N) (h : t.val = 15) (X9 X10 X11 X12 X13 X14) (I : Inv m c t.val X9 X10 X11 X12 X13 X14) :
    Inv m c (t.val + 1) X9 X10 (xT (xB m c t)) X12 X13 X14 where
  maxima y hy := I.maxima y (by omega)
  rows y hy := I.rows y (by omega)
  even _ _ _ := by unfold xF; rw [Nat.add_sub_cancel, pt_val]
  odd _ _ _ := by omega
  rot _ := I.rot (by omega)
  scales _ := I.scales (by omega)

theorem inv_even (c : Dev nD) (t : Fin cfg0.N) (h : 16 ≤ t.val) (h2 : t.val % 2 = 0) (X9 X10 X11 X12 X13 X14) (I : Inv m c t.val X9 X10 X11 X12 X13 X14) :
    Inv m c (t.val + 1) X9 X10 X11 (xT (xB m c t)) X13 X14 where
  maxima y hy := I.maxima y (by omega)
  rows y hy := I.rows y (by omega)
  even _ _ _ := by omega
  odd _ _ _ := by unfold xF; rw [Nat.add_sub_cancel, pt_val]
  rot _ := I.rot (by omega)
  scales _ := I.scales (by omega)

theorem inv_odd (c : Dev nD) (t : Fin cfg0.N) (h : 16 ≤ t.val) (h2 : t.val % 2 = 1) (X9 X10 X11 X12 X13 X14) (I : Inv m c t.val X9 X10 X11 X12 X13 X14) :
    Inv m c (t.val + 1) X9 X10 (xT (xB m c t)) X12 X13 X14 where
  maxima y hy := I.maxima y (by omega)
  rows y hy := I.rows y (by omega)
  even _ _ _ := by unfold xF; rw [Nat.add_sub_cancel, pt_val]
  odd _ _ _ := by omega
  rot _ := I.rot (by omega)
  scales _ := I.scales (by omega)

theorem inv_last (c : Dev nD) (t : Fin cfg0.N) (h : t.val = 35) (X9 X10 X11 X12 X13 X14) (I : Inv m c t.val X9 X10 X11 X12 X13 X14) :
    Inv m c (t.val + 1) X9 X10 X11 X12 X13 X14 where
  maxima y hy := I.maxima y (by omega)
  rows y hy := I.rows y (by omega)
  even _ _ _ := by omega
  odd _ _ _ := by omega
  rot _ := I.rot (by omega)
  scales _ := I.scales (by omega)

theorem full_rows (c : Dev nD) (n : ℕ) (h : 15 ≤ n) (X9 X10 X11 X12 X13 X14) (I : Inv m c n X9 X10 X11 X12 X13 X14) : X10 = dyF m c :=
  funext fun y => I.rows y (by have : (y 0).val < 3456 := (y 0).isLt; omega)

/-! ## The body at a point -/

/-- What the body is handed at point `t`; what it leaves. -/
def bodyPre (c : Dev nD) (t : Fin cfg0.N) : sProp 𝕄 :=
  iprop(PhiN m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop(PhiN m c (t.val + 1) ∗ (dats m 0 c).owesAt () t.castSucc ∗ owns (c : Thread nD τ) (st0_0 t) fullShare (sgB m c t) ∗ owns (c : Thread nD τ) (st0_1 t) fullShare (xsB m c t) ∗ owns (c : Thread nD τ) (st0_2 t) fullShare (gB m c t) ∗ owns (c : Thread nD τ) (st0_3 t) fullShare (dyB m c t) ∗ owns (c : Thread nD τ) (st0_4 t) fullShare (xB m c t) ∗ (dats m 0 c).leavesExact 5 t ∗ (dats m 0 c).leavesExact 6 t ∗ (dats m 0 c).leavesExact 7 t)

theorem leaves5_idle (c : Dev nD) (t : Fin cfg0.N) (h : t.val < 16) (d) :
    owns (c : Thread nD τ) (st0_5 t) fullShare ((dats m 0 c).before 5 t d) ⊢ (dats m 0 c).leavesExact 5 t := by
  rw [(dats m 0 c).leavesExact_idle 5 t ((idle5_iff t).mpr h) (by have := (flush5_iff t).not.mpr (by omega); simpa using this)]
  iintro H; iexists d; iexact H

theorem leaves5_live (c : Dev nD) (t : Fin cfg0.N) (h : 16 ≤ t.val) :
    owns (c : Thread nD τ) (st0_5 t) fullShare (dwB m c t.val) ⊢ (dats m 0 c).leavesExact 5 t := by
  have hi : cfg0.idle 5 (cfg0.grid.coords t) = false := Bool.eq_false_iff.mpr ((idle5_iff t).not.mpr (by omega))
  rw [← after0_5]; unfold Dat.leavesExact; rw [hi]

theorem leaves6_idle (c : Dev nD) (t : Fin cfg0.N) (h : (t.val < 6 ∨ 15 ≤ t.val)) (d) :
    owns (c : Thread nD τ) (st0_6 t) fullShare ((dats m 0 c).before 6 t d) ⊢ (dats m 0 c).leavesExact 6 t := by
  have ht := lt36 t
  have hi : cfg0.idle 6 (cfg0.grid.coords t) = true := (idle6_iff t).mpr h
  by_cases h35 : t.val = 35
  · have hf : (cfg0.win 6).flush t = true := (flush6_iff t).mpr (by omega)
    rw [before0_6 m c t (by omega) d, ← after0_6 m c t]; unfold Dat.leavesExact; rw [hi, hf]
  · rw [(dats m 0 c).leavesExact_idle 6 t hi (by have := (flush6_iff t).not.mpr (by omega); simpa using this)]
    iintro H; iexists d; iexact H

theorem leaves6_live (c : Dev nD) (t : Fin cfg0.N) (h : (6 ≤ t.val ∧ t.val < 15)) :
    owns (c : Thread nD τ) (st0_6 t) fullShare (sbB m c t.val) ⊢ (dats m 0 c).leavesExact 6 t := by
  have hi : cfg0.idle 6 (cfg0.grid.coords t) = false := Bool.eq_false_iff.mpr ((idle6_iff t).not.mpr (by omega))
  rw [← after0_6 m c t]; unfold Dat.leavesExact; rw [hi]

theorem leaves7_idle (c : Dev nD) (t : Fin cfg0.N) (h : t.val ≠ 6) (d) :
    owns (c : Thread nD τ) (st0_7 t) fullShare ((dats m 0 c).before 7 t d) ⊢ (dats m 0 c).leavesExact 7 t := by
  have ht := lt36 t
  have hi : cfg0.idle 7 (cfg0.grid.coords t) = true := (idle7_iff t).mpr h
  by_cases h35 : t.val = 35
  · have hf : (cfg0.win 7).flush t = true := (flush7_iff t).mpr (by omega)
    rw [before0_7 m c t (by omega) d, ← after0_7 m c t]; unfold Dat.leavesExact; rw [hi, hf]
  · rw [(dats m 0 c).leavesExact_idle 7 t hi (by have := (flush7_iff t).not.mpr (by omega); simpa using this)]
    iintro H; iexists d; iexact H

theorem leaves7_live (c : Dev nD) (t : Fin cfg0.N) (h : t.val = 6) :
    owns (c : Thread nD τ) (st0_7 t) fullShare (tsB m c) ⊢ (dats m 0 c).leavesExact 7 t := by
  have hi : cfg0.idle 7 (cfg0.grid.coords t) = false := Bool.eq_false_iff.mpr ((idle7_iff t).not.mpr (by omega))
  rw [← after0_7 m c t]; unfold Dat.leavesExact; rw [hi]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  conv_lhs => unfold PhiN
  have ht := lt36 t
  iintro ⟨⟨⟨%X9, %X10, %X11, %X12, %X13, %X14, %hI, S9, S10, S11, S12, S13, S14⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases hA : t.val = 0
  · iapply (body_start c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) ⟨t.val, by omega⟩ (off1_eq t (by omega)) (off2_eq t (by omega)) (off3_eq t (by omega)) (off4_eq t (by omega)) (off5_eq t (by omega)) (off6_eq t (by omega)) (off7_eq t (by omega)) (off8_eq t (by omega)) (off9_eq t (by omega)) (off10_eq t (by omega)) (off11_eq t (by omega)) (off12_eq t (by omega)) (off13_eq t (by omega)) (off14_eq t (by omega)) _ _ _ _ _ _ _ _ _ _ _ _ _ _ _ _ _ _ _ _ _ _ _ _ _ _ _ _ (sgB m c t) (gB m c t) X9)
    isplitl [H0]; · iexact H0
    isplitl [H2]; · iexact H2
    isplitl [S9]; · iexact S9
    isplitl [S13]; · iexists _; iexact S13
    iintro ⟨H0, H2, S9, S13⟩
    unfold PhiN
    isplitl [S9 S10 S11 S12 S13 S14 Hp]
    · isplitr [Hp]; swap; · iexact Hp
      iexists _; iexists _; iexists _; iexists _; iexists _; iexists _
      isplitr; · ipureintro; exact inv_start m c t hA (by omega) X9 X10 X11 X12 X13 X14 hI
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply (leaves5_idle m c t (by omega) d5); iexact H5
    isplitl [H6]; · iapply (leaves6_idle m c t (by omega) d6); iexact H6
    iapply (leaves7_idle m c t (by omega) d7); iexact H7
  by_cases hA' : t.val < 6
  · iapply (body_amax c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) ⟨t.val, by omega⟩ (off1_eq t (by omega)) (off2_eq t (by omega)) (off3_eq t (by omega)) (off4_eq t (by omega)) (off5_eq t (by omega)) (off6_eq t (by omega)) (off7_eq t (by omega)) (off8_eq t (by omega)) (off9_eq t (by omega)) (off10_eq t (by omega)) (off11_eq t (by omega)) (off12_eq t (by omega)) (off13_eq t (by omega)) (off14_eq t (by omega)) _ _ _ _ _ _ _ _ _ _ _ _ _ _ _ _ _ _ _ _ _ _ _ _ _ _ _ _ (gB m c t) X9 X13)
    isplitl [H2]; · iexact H2
    isplitl [S9]; · iexact S9
    isplitl [S13]; · iexact S13
    iintro ⟨H2, S9, S13⟩
    unfold PhiN
    isplitl [S9 S10 S11 S12 S13 S14 Hp]
    · isplitr [Hp]; swap; · iexact Hp
      iexists _; iexists _; iexists _; iexists _; iexists _; iexists _
      isplitr; · ipureintro; exact inv_amax m c t (by omega) (by omega) X9 X10 X11 X12 X13 X14 hI
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply (leaves5_idle m c t (by omega) d5); iexact H5
    isplitl [H6]; · iapply (leaves6_idle m c t (by omega) d6); iexact H6
    iapply (leaves7_idle m c t (by omega) d7); iexact H7
  have e9 := full_maxima m c t.val (by omega) X9 X10 X11 X12 X13 X14 hI
  by_cases hB : t.val = 6
  · have hI' := inv_first m c t hB X9 X10 X11 X12 X13 X14 hI
    have l6 := leaves6_live m c t (by omega)
    have l7 := leaves7_live m c t hB
    unfold sbB at l6
    unfold tsB at l7
    rw [← e9] at l6 l7
    iapply (body_first c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) (qn t.val) (off15_eq t (by omega) (by omega)) (off16_eq t (by omega) (by omega)) (off17_eq t (by omega) (by omega)) (off18_eq t (by omega) (by omega)) (off19_eq t (by omega) (by omega)) (off20_eq t (by omega) (by omega)) (off21_eq t (by omega) (by omega)) _ _ _ _ _ _ _ _ _ _ _ _ _ _ _ _ _ _ _ _ _ _ _ _ _ _ _ _ (xsB m c t) (dyB m c t) X9 X10)
    isplitl [H1]; · iexact H1
    isplitl [H3]; · iexact H3
    isplitl [H6]; · iexists _; iexact H6
    isplitl [H7]; · iexists _; iexact H7
    isplitl [S9]; · iexact S9
    isplitl [S10]; · iexact S10
    isplitl [S14]; · iexists _; iexact S14
    iintro ⟨H1, H3, H6, H7, S9, S10, S14⟩
    unfold PhiN
    isplitl [S9 S10 S11 S12 S13 S14 Hp]
    · isplitr [Hp]; swap; · iexact Hp
      iexists _; iexists _; iexists _; iexists _; iexists _; iexists _
      isplitr; · ipureintro; exact hI'
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply (leaves5_idle m c t (by omega) d5); iexact H5
    isplitl [H6]; · iapply l6; iexact H6
    iapply l7; iexact H7
  by_cases hC : t.val < 15
  · have hI' := inv_rows m c t (by omega) hC X9 X10 X11 X12 X13 X14 hI
    have l6 := leaves6_live m c t (by omega)
    have e14 : X14 (ix1 1) = k0_pay99 (adyF m c) := by rw [hI.scales (by omega)]; rfl
    unfold sbB at l6
    rw [← e14, ← e9] at l6
    iapply (body_rows c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) (qn t.val) (off15_eq t (by omega) (by omega)) (off16_eq t (by omega) (by omega)) (off17_eq t (by omega) (by omega)) (off18_eq t (by omega) (by omega)) (off19_eq t (by omega) (by omega)) (off20_eq t (by omega) (by omega)) (off21_eq t (by omega) (by omega)) _ _ _ _ _ _ _ _ _ _ _ _ _ _ _ _ _ _ _ _ _ _ _ _ _ _ _ _ (dyB m c t) X9 X10 X14)
    isplitl [H3]; · iexact H3
    isplitl [H6]; · iexists _; iexact H6
    isplitl [S9]; · iexact S9
    isplitl [S10]; · iexact S10
    isplitl [S14]; · iexact S14
    iintro ⟨H3, H6, S9, S10, S14⟩
    unfold PhiN
    isplitl [S9 S10 S11 S12 S13 S14 Hp]
    · isplitr [Hp]; swap; · iexact Hp
      iexists _; iexists _; iexists _; iexists _; iexists _; iexists _
      isplitr; · ipureintro; exact hI'
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply (leaves5_idle m c t (by omega) d5); iexact H5
    isplitl [H6]; · iapply l6; iexact H6
    iapply (leaves7_idle m c t (by omega) d7); iexact H7
  by_cases hD : t.val = 15
  · iapply (body_turn c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) _ _ _ _ _ _ _ _ _ _ _ _ _ _ _ _ _ _ _ _ _ _ _ _ _ _ _ _ (xB m c t))
    isplitl [H4]; · iexact H4
    isplitl [S11]; · iexists _; iexact S11
    iintro ⟨H4, S11⟩
    unfold PhiN
    isplitl [S9 S10 S11 S12 S13 S14 Hp]
    · isplitr [Hp]; swap; · iexact Hp
      iexists _; iexists _; iexists _; iexists _; iexists _; iexists _
      isplitr; · ipureintro; exact inv_turn m c t hD X9 X10 X11 X12 X13 X14 hI
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply (leaves5_idle m c t (by omega) d5); iexact H5
    isplitl [H6]; · iapply (leaves6_idle m c t (by omega) d6); iexact H6
    iapply (leaves7_idle m c t (by omega) d7); iexact H7
  have e10 := full_rows m c t.val (by omega) X9 X10 X11 X12 X13 X14 hI
  have e14 := hI.scales (by omega)
  have l5 := leaves5_live m c t (by omega)
  unfold dwB at l5
  rw [← e10, ← e14] at l5
  by_cases hE : t.val % 2 = 0
  · have hI' := inv_even m c t (by omega) hE X9 X10 X11 X12 X13 X14 hI
    rw [← hI.even (by omega) (by omega) hE] at l5
    iapply (body_even c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) _ _ _ _ _ _ _ _ _ _ _ _ _ _ _ _ _ _ _ _ _ _ _ _ _ _ _ _ (xB m c t) X10 X11 X14)
    isplitl [H4]; · iexact H4
    isplitl [H5]; · iexists _; iexact H5
    isplitl [S10]; · iexact S10
    isplitl [S11]; · iexact S11
    isplitl [S12]; · iexists _; iexact S12
    isplitl [S14]; · iexact S14
    iintro ⟨H4, H5, S10, S11, S12, S14⟩
    unfold PhiN
    isplitl [S9 S10 S11 S12 S13 S14 Hp]
    · isplitr [Hp]; swap; · iexact Hp
      iexists _; iexists _; iexists _; iexists _; iexists _; iexists _
      isplitr; · ipureintro; exact hI'
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply l5; iexact H5
    isplitl [H6]; · iapply (leaves6_idle m c t (by omega) d6); iexact H6
    iapply (leaves7_idle m c t (by omega) d7); iexact H7
  by_cases hF : t.val < 35
  · have hI' := inv_odd m c t (by omega) (by omega) X9 X10 X11 X12 X13 X14 hI
    rw [← hI.odd (by omega) (by omega) (by omega)] at l5
    iapply (body_odd c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) _ _ _ _ _ _ _ _ _ _ _ _ _ _ _ _ _ _ _ _ _ _ _ _ _ _ _ _ (xB m c t) X10 X12 X14)
    isplitl [H4]; · iexact H4
    isplitl [H5]; · iexists _; iexact H5
    isplitl [S10]; · iexact S10
    isplitl [S11]; · iexists _; iexact S11
    isplitl [S12]; · iexact S12
    isplitl [S14]; · iexact S14
    iintro ⟨H4, H5, S10, S11, S12, S14⟩
    unfold PhiN
    isplitl [S9 S10 S11 S12 S13 S14 Hp]
    · isplitr [Hp]; swap; · iexact Hp
      iexists _; iexists _; iexists _; iexists _; iexists _; iexists _
      isplitr; · ipureintro; exact hI'
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply l5; iexact H5
    isplitl [H6]; · iapply (leaves6_idle m c t (by omega) d6); iexact H6
    iapply (leaves7_idle m c t (by omega) d7); iexact H7
  · have hI' := inv_last m c t (by omega) X9 X10 X11 X12 X13 X14 hI
    rw [← hI.odd (by omega) (by omega) (by omega)] at l5
    iapply (body_last c Set.univ (grid0.coords t) (by rw [c1_iff]; omega) (by rw [c2_iff]; omega) (by rw [c3_iff]; omega) (by rw [c4_iff]; omega) (by rw [c5_iff]; omega) (by rw [c6_iff]; omega) (by rw [c7_iff]; omega) (by rw [c8_iff]; omega) _ _ _ _ _ _ _ _ _ _ _ _ _ _ _ _ _ _ _ _ _ _ _ _ _ _ _ _ X10 X12 X14)
    isplitl [H5]; · iexists _; iexact H5
    isplitl [S10]; · iexact S10
    isplitl [S12]; · iexact S12
    isplitl [S14]; · iexact S14
    iintro ⟨H5, S10, S12, S14⟩
    unfold PhiN
    isplitl [S9 S10 S11 S12 S13 S14 Hp]
    · isplitr [Hp]; swap; · iexact Hp
      iexists _; iexists _; iexists _; iexists _; iexists _; iexists _
      isplitr; · ipureintro; exact hI'
      isplitl [S9]; · iexact S9
      isplitl [S10]; · iexact S10
      isplitl [S11]; · iexact S11
      isplitl [S12]; · iexact S12
      isplitl [S13]; · iexact S13
      iexact S14
    isplitl [Ho]; · iexact Ho
    isplitl [H0]; · iexact H0
    isplitl [H1]; · iexact H1
    isplitl [H2]; · iexact H2
    isplitl [H3]; · iexact H3
    isplitl [H4]; · iexact H4
    isplitl [H5]; · iapply l5; iexact H5
    isplitl [H6]; · iapply (leaves6_idle m c t (by omega) d6); iexact H6
    iapply (leaves7_idle m c t (by omega) d7); iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]; exact triple_restated (sound_body m c t) rfl .rfl fun _ => .rfl

theorem hin (c : Dev nD) : (Pipeline.ΦA spec0 c : sProp 𝕄) ⊢ (dats m 0 c).Φ 0 := by
  show _ ⊢ PhiN m c 0
  unfold Pipeline.ΦA PhiN
  rw [scopedRest0_eq]
  simp only [owns_whole]
  iintro ⟨⟨⟨%f1, H1⟩, ⟨%f2, H2⟩, ⟨%f3, H3⟩, ⟨%f4, H4⟩, ⟨%f5, H5⟩, ⟨%f6, H6⟩⟩, Hp⟩
  isplitr [Hp]; swap; · iexact Hp
  iexists f1; iexists f2; iexists f3; iexists f4; iexists f5; iexists f6
  isplitr
  · ipureintro
    exact ⟨fun y hy => by omega, fun y hy => by omega, fun h _ _ => by omega, fun h _ _ => by omega, fun h => by omega, fun h => by omega⟩
  isplitl [H1]; · iexact H1
  isplitl [H2]; · iexact H2
  isplitl [H3]; · iexact H3
  isplitl [H4]; · iexact H4
  isplitl [H5]; · iexact H5
  iexact H6

theorem hout (c : Dev nD) : (dats m 0 c).Φ (Fin.last cfg0.N) ⊢ (Pipeline.ΦA spec0 c : sProp 𝕄) := by
  show PhiN m c cfg0.N ⊢ _
  unfold Pipeline.ΦA PhiN
  rw [scopedRest0_eq]
  simp only [owns_whole]
  iintro ⟨⟨%X1, %X2, %X3, %X4, %X5, %X6, -, H1, H2, H3, H4, H5, H6⟩, Hp⟩
  isplitr [Hp]; swap; · iexact Hp
  isplitl [H1]; · iexists X1; iexact H1
  isplitl [H2]; · iexists X2; iexact H2
  isplitl [H3]; · iexists X3; iexact H3
  isplitl [H4]; · iexists X4; iexact H4
  isplitl [H5]; · iexists X5; iexact H5
  iexists X6; iexact H6

set_option backward.isDefEq.respectTransparency.types false in
/-- The launch: every array at what the steps leave it, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))
end Cert.Proof.KI
-- ==== Proof.Rot.lean ====
module
public import proofs.«01_k».proof.Proof.Pieces
public import Idealize.ShloMosaic.Lib.ValueIdx
public import Idealize.ShloMosaic.Lib.MatmulPlain
public import Idealize.ShloMosaic.Lib.Pipeline.Value
public import Idealize.ShloMosaic.Lib.Pipeline.ValueKit
public import Idealize.ShloMosaic.Lib.KernelVsHost
public import Idealize.ShloMosaic.PureOps.Ideal.Laws
@[expose] public section
set_option maxRecDepth 16384
noncomputable section
namespace Cert.Proof.KI
open Cert.KernelIdeal Cert.KernelIdeal.Gen
open Idealize.ShloMosaic hiding ix1 ix2 eq_ix2 eq_ix1 mulf_apply
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
variable {F : FTy → Type} [FloatOps F]

/-! ## The rotation, over the extended reals -/

/-- The parity of the bits `i` and `j` have in common. -/
def pb (i j : Fin 16) : BitVec 32 := IntOp.andi (IntOp.ctpop (IntOp.andi (BitVec.ofNat 32 i.val) (BitVec.ofNat 32 j.val))) 1#32

/-- The Walsh sign `1 - 2 parity`. -/
def hv (i j : Fin 16) : Ideal .f32 := FloatOps.sitofp (F := Ideal) .f32 (IntOp.subi 1#32 (IntOp.muli 2#32 (pb i j)))

/-- The rotation's scale, a quarter. -/
def qv : Ideal .f32 := FloatOps.ofBits (F := Ideal) .f32 0x3E800000#32

/-- Entry `i` of the rotated group. -/
def rotv (w : Fin 16 → Ideal .f32) (x : Fin 16 → EReal) (i : Fin 16) : EReal := ∑ j : Fin 16, x j * ((hv i j * w j) * qv)

theorem pb_cases : ∀ i j : Fin 16, pb i j = 0#32 ∨ pb i j = 1#32 := by decide +kernel

theorem parity_eq : ∀ i j : Fin 16,
    IntOp.andi (IntOp.xori (IntOp.xori (IntOp.andi (BitVec.ofNat 32 i.val) (BitVec.ofNat 32 j.val)) (IntOp.shrsi .vector (IntOp.andi (BitVec.ofNat 32 i.val) (BitVec.ofNat 32 j.val)) 2#32))
      (IntOp.shrsi .vector (IntOp.xori (IntOp.andi (BitVec.ofNat 32 i.val) (BitVec.ofNat 32 j.val)) (IntOp.shrsi .vector (IntOp.andi (BitVec.ofNat 32 i.val) (BitVec.ofNat 32 j.val)) 2#32)) 1#32)) 1#32 = pb i j := by decide +kernel

theorem low_eq : ∀ c : Fin 256, IntOp.andi (BitVec.ofNat 32 c.val) 15#32 = BitVec.ofNat 32 (c.val % 16) := by decide +kernel
theorem high_eq : ∀ c : Fin 256, IntOp.shrsi .vector (BitVec.ofNat 32 c.val) 4#32 = BitVec.ofNat 32 (c.val / 16) := by decide +kernel
theorem same_eq : ∀ a b : Fin 16, IntOp.cmpi .eq (BitVec.ofNat 32 a.val) (BitVec.ofNat 32 b.val) = if a = b then 1#1 else 0#1 := by decide +kernel

theorem ofBits_one : Ideal.ofBits .f32 0x3F800000#32 = 1 := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_zero : Ideal.ofBits .f32 0x00000000#32 = 0 := by
  simp [Ideal.ofBits, Ideal.ieee]

/-- The sign as the body computes it is the sign of the integers. -/
theorem sign_eq (i j : Fin 16) :
    FloatOps.subf (F := Ideal) (φ := .f32) (FloatOps.ofBits .f32 0x3F800000#32) (FloatOps.mulf (F := Ideal) (φ := .f32) (FloatOps.ofBits .f32 0x40000000#32) (FloatOps.sitofp (F := Ideal) .f32 (pb i j))) = hv i j := by
  unfold hv
  rcases pb_cases i j with h | h <;> rw [h]
  · show Ideal.ofBits .f32 0x3F800000#32 - Ideal.ofBits .f32 0x40000000#32 * (((0#32 : BitVec 32).toInt : ℝ) : EReal) = (((IntOp.subi 1#32 (IntOp.muli 2#32 0#32)).toInt : ℝ) : EReal)
    rw [ofBits_one, ofBits_two, show (0#32 : BitVec 32).toInt = 0 by decide, show (IntOp.subi 1#32 (IntOp.muli 2#32 0#32)).toInt = 1 by decide]
    simp
  · show Ideal.ofBits .f32 0x3F800000#32 - Ideal.ofBits .f32 0x40000000#32 * (((1#32 : BitVec 32).toInt : ℝ) : EReal) = (((IntOp.subi 1#32 (IntOp.muli 2#32 1#32)).toInt : ℝ) : EReal)
    rw [ofBits_one, ofBits_two, show (1#32 : BitVec 32).toInt = 1 by decide, show (IntOp.subi 1#32 (IntOp.muli 2#32 1#32)).toInt = -1 by decide]
    have : (1 : EReal) = ((1 : ℝ) : EReal) := rfl
    rw [this]
    norm_cast

/-- The signs laid along the columns. -/
theorem chain_apply (w : Fin 16 → Ideal .f32) (r c : Fin 256) (j : Fin 16) (hj : j.val = c.val % 16) :
    select (k0_pay17 k0_pay13) (k0_pay18 (F := Ideal) (w 15)) (k0_pay16 k0_pay13 (k0_pay14 (w 0) (w 1) (w 2) (w 3) (w 4) (w 5) (w 6)) k0_pay15 (w 7) (w 8) (w 9) (w 10) (w 11) (w 12) (w 13) (w 14)) (ix2 r c) = w j := by
  have hb : (k0_pay13 : IVec S256x256 32) (ix2 r c) = BitVec.ofNat 32 j.val := by
    rw [hj, ← low_eq c]
    show IntOp.andi (BitVec.ofNat 32 (0 * 256 + c.val)) 15#32 = _
    rw [Nat.zero_mul, Nat.zero_add]
  unfold k0_pay17 k0_pay18 k0_pay16 k0_pay14 k0_pay15
  dsimp only [select, cmpi, broadcast]
  rw [hb]
  clear hb hj
  fin_cases j <;> rfl

theorem rpM_apply (w : Fin 16 → Ideal .f32) (i b g j : Fin 16) (r c : Fin 256) (hr : r.val = 16 * i.val + b.val) (hc : c.val = 16 * g.val + j.val) :
    rpM (F := Ideal) w (ix2 r c) = if b = g then hv i j * (w j * qv) else 0 := by
  have hi := i.isLt
  have hb := b.isLt
  have hg := g.isLt
  have hj := j.isLt
  unfold rpM k0_pay95
  dsimp only
  rw [shapeCast_self]
  have e0 : (iota .tc S256x256 32 [0] iota_S256x256_d0_w32 : IVec S256x256 32) (ix2 r c) = BitVec.ofNat 32 r.val := by
    show BitVec.ofNat 32 (0 * 256 + r.val) = _
    rw [Nat.zero_mul, Nat.zero_add]
  have e1 : (iota .tc S256x256 32 [1] iota_S256x256_d1_w32 : IVec S256x256 32) (ix2 r c) = BitVec.ofNat 32 c.val := by
    show BitVec.ofNat 32 (0 * 256 + c.val) = _
    rw [Nat.zero_mul, Nat.zero_add]
  have hch := chain_apply w r c j (by omega)
  dsimp only [truncf, select, cmpi, broadcast, andi, xori, shrsi, subf, mulf, sitofp] at hch ⊢
  rw [hch, e0, e1, high_eq r, low_eq c, low_eq r, high_eq c, show r.val / 16 = i.val by omega, show c.val % 16 = j.val by omega, show r.val % 16 = b.val by omega,
    show c.val / 16 = g.val by omega, parity_eq i j, same_eq b g]
  have hs := sign_eq i j
  by_cases h : b = g
  · rw [if_pos h, if_pos h]
    show FloatOps.mulf (F := Ideal) (φ := .f32) (FloatOps.subf (F := Ideal) (φ := .f32) (FloatOps.ofBits .f32 0x3F800000#32) (FloatOps.mulf (F := Ideal) (φ := .f32) (FloatOps.ofBits .f32 0x40000000#32) (FloatOps.sitofp (F := Ideal) .f32 (pb i j)))) (w j * qv) = _
    rw [hs]
    rfl
  · rw [if_neg h, if_neg h]
    exact ofBits_zero

/-- The sum over the 256 tokens of a block has sixteen nonzero terms, those of the entry's own group. -/
theorem sum_apply (w : Fin 16 → Ideal .f32) (x : Fin 256 → EReal) (i b : Fin 16) (r : Fin 256) (hr : r.val = 16 * i.val + b.val) :
    (∑ t : Fin 256, rpM (F := Ideal) w (ix2 r t) * x t) = rotv w (fun j => x ⟨16 * b.val + j.val, by omega⟩) i := by
  rw [← Equiv.sum_comp (finProdFinEquiv (m := 16) (n := 16)) (fun t : Fin 256 => (rpM (F := Ideal) w (ix2 r t) : EReal) * x t), Fintype.sum_prod_type]
  rw [Finset.sum_eq_single b]
  · unfold rotv
    refine Finset.sum_congr rfl fun j _ => ?_
    rw [rpM_apply w i b b j r _ hr (by show j.val + 16 * b.val = _; omega), if_pos rfl]
    have ex : x (finProdFinEquiv (b, j)) = x ⟨16 * b.val + j.val, by omega⟩ := congrArg x (Fin.ext (by show j.val + 16 * b.val = 16 * b.val + j.val; omega))
    refine Eq.trans (congrArg (_ * ·) ex) ?_
    rw [mul_comm]
    exact congrArg (_ * ·) (mul_assoc _ _ _).symm
  · intro g _ hg
    refine Finset.sum_eq_zero fun j _ => ?_
    rw [rpM_apply w i b g j r _ hr (by show j.val + 16 * g.val = _; omega), if_neg (Ne.symm hg), zero_mul]
  · intro h; exact absurd (Finset.mem_univ b) h

/-- The largest magnitude of a rotated group. -/
def grp (w : Fin 16 → Ideal .f32) (x : Fin 16 → EReal) : EReal :=
  (Finset.univ : Finset (Fin 16)).fold max (FloatOps.ofBits (F := Ideal) .f32 0xFF800000#32) (fun i => FloatOps.absf (F := Ideal) (φ := .f32) (rotv w x i))

theorem pay19_apply (w : Fin 16 → Ideal .f32) (x : Vec Ideal S256x256 .bf16) (b : Fin 16) (c : Fin 256) :
    k0_pay19 (rpM (F := Ideal) w) x (ix2 b c) = grp w (fun j => x (ix2 ⟨16 * b.val + j.val, by omega⟩ c)) := by
  unfold k0_pay19
  dsimp only
  rw [shapeCast_self]
  refine (Ideal.multiReduction_maximumf_single _ _ reduces_S16x16x256_S16x256 _ _ _).trans ?_
  unfold grp
  refine congrArg (fun f => (Finset.univ : Finset (Fin 16)).fold max (FloatOps.ofBits (F := Ideal) .f32 0xFF800000#32) f) (funext fun i => ?_)
  have hb := b.isLt
  have hi : i.val < 16 := i.isLt
  have hc := c.isLt
  have el : reduces_S16x16x256_S16x256.lift (ix2 b c) i = (ValueIdx.ix3 i b c : S16x16x256.Idx) := funext fun a => match a with
    | ⟨0, _⟩ => rfl
    | ⟨1, _⟩ => rfl
    | ⟨2, _⟩ => rfl
  show shapeCast S16x16x256 _ shapeCasts_S256x256_S16x16x256 (reduces_S16x16x256_S16x256.lift (ix2 b c) i) = _
  rw [el, shapeCast_apply (k := ix2 ⟨16 * i.val + b.val, by omega⟩ c) (hk := by
    rewrite [Shape.rowMajor_val_two, Shape.rowMajor_val_three]
    show (16 * i.val + b.val) * 256 + c.val = (i.val * 16 + b.val) * 256 + c.val
    omega)]
  refine congrArg (FloatOps.absf (F := Ideal) (φ := .f32)) ?_
  have e := Ideal.matmul_plain_apply (φ₁ := .bf16) (φ₂ := .bf16) none (rpM (F := Ideal) w) x (constant S256x256 .f32 0x00000000#32) ⟨16 * i.val + b.val, by omega⟩ c
  have z : (constant S256x256 .f32 0x00000000#32 : FVec Ideal S256x256 .f32) (ix2 ⟨16 * i.val + b.val, by omega⟩ c) = 0 := ofBits_zero
  rw [z, zero_add] at e
  exact e.trans (sum_apply w (fun t => x (ix2 t c)) i b _ rfl)

theorem pay98_apply (w : Fin 16 → Ideal .f32) (x : Vec Ideal S256x128 .bf16) (b : Fin 16) (c : Fin 128) :
    k0_pay98 (rpM (F := Ideal) w) x (ix2 b c) = grp w (fun j => x (ix2 ⟨16 * b.val + j.val, by omega⟩ c)) := by
  unfold k0_pay98
  dsimp only
  rw [shapeCast_self]
  refine (Ideal.multiReduction_maximumf_single _ _ reduces_S16x16x128_S16x128 _ _ _).trans ?_
  unfold grp
  refine congrArg (fun f => (Finset.univ : Finset (Fin 16)).fold max (FloatOps.ofBits (F := Ideal) .f32 0xFF800000#32) f) (funext fun i => ?_)
  have hb := b.isLt
  have hi : i.val < 16 := i.isLt
  have hc := c.isLt
  have el : reduces_S16x16x128_S16x128.lift (ix2 b c) i = (ValueIdx.ix3 i b c : S16x16x128.Idx) := funext fun a => match a with
    | ⟨0, _⟩ => rfl
    | ⟨1, _⟩ => rfl
    | ⟨2, _⟩ => rfl
  show shapeCast S16x16x128 _ shapeCasts_S256x128_S16x16x128 (reduces_S16x16x128_S16x128.lift (ix2 b c) i) = _
  rw [el, shapeCast_apply (k := ix2 ⟨16 * i.val + b.val, by omega⟩ c) (hk := by
    rewrite [Shape.rowMajor_val_two, Shape.rowMajor_val_three]
    show (16 * i.val + b.val) * 128 + c.val = (i.val * 16 + b.val) * 128 + c.val
    omega)]
  refine congrArg (FloatOps.absf (F := Ideal) (φ := .f32)) ?_
  have e := Ideal.matmul_plain_apply (φ₁ := .bf16) (φ₂ := .bf16) none (rpM (F := Ideal) w) x (constant S256x128 .f32 0x00000000#32) ⟨16 * i.val + b.val, by omega⟩ c
  have z : (constant S256x128 .f32 0x00000000#32 : FVec Ideal S256x128 .f32) (ix2 ⟨16 * i.val + b.val, by omega⟩ c) = 0 := ofBits_zero
  rw [z, zero_add] at e
  exact e.trans (sum_apply w (fun t => x (ix2 t c)) i b _ rfl)

end Cert.Proof.KI
end
-- ==== Proof.Maxima.lean ====
module
public import proofs.«01_k».proof.Proof.Rot
public import Idealize.ShloMosaic.Lib.ValueIdx
public import Idealize.ShloMosaic.Lib.MatmulPlain
public import Idealize.ShloMosaic.Lib.Pipeline.Value
public import Idealize.ShloMosaic.Lib.Pipeline.ValueKit
public import Idealize.ShloMosaic.Lib.KernelVsHost
public import Idealize.ShloMosaic.PureOps.Ideal.Laws
@[expose] public section
set_option maxRecDepth 16384
noncomputable section
namespace Cert.Proof.KI
open Cert.KernelIdeal Cert.KernelIdeal.Gen
open Idealize.ShloMosaic hiding ix1 ix2 ix3 eq_ix2 eq_ix1 eq_ix3 mulf_apply
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
variable {F : FTy → Type} [FloatOps F]

/-! ## The maxima and the scales, over the extended reals -/

theorem ofBits_ninf : Ideal.ofBits .f32 0xFF800000#32 = ⊥ := by
  simp [Ideal.ofBits, Ideal.ieee]
theorem ofBits_div : Ideal.ofBits .f32 0x45280000#32 = ((2688 : ℝ) : EReal) := by
  simp [Ideal.ofBits, Ideal.ieee, -EReal.coe_mul]; norm_num

theorem fold_sup {ι : Type} (s : Finset ι) (f : ι → EReal) :
    s.fold (FloatOps.maximumf (F := Ideal) (φ := .f32)) (FloatOps.ofBits (F := Ideal) .f32 0xFF800000#32) f = s.sup f := by
  have e : FloatOps.ofBits (F := Ideal) .f32 0xFF800000#32 = (⊥ : EReal) := ofBits_ninf
  rw [e]; rfl

theorem grp_sup (w : Fin 16 → Ideal .f32) (x : Fin 16 → EReal) :
    grp w x = (Finset.univ : Finset (Fin 16)).sup (fun i => FloatOps.absf (F := Ideal) (φ := .f32) (rotv w x i)) := fold_sup _ _

/-- The largest of the group maxima. -/
def tot (A : Fin 96 → Fin 3456 → EReal) : EReal := (Finset.univ : Finset (Fin 96 × Fin 3456)).sup fun p => A p.1 p.2

/-- The tensor scale: the largest magnitude over 2688, or one. -/
def stA (A : Fin 96 → Fin 3456 → EReal) : Ideal .f32 :=
  Scalar.select (FloatOps.cmpf (F := Ideal) (φ := .f32) .ogt (tot A) (FloatOps.ofBits .f32 0x00000000#32)) (tot A * ((1 / 2688 : ℝ) : EReal)) (FloatOps.ofBits (F := Ideal) .f32 0x3F800000#32)

/-- A block scale: the group's maximum over six tensor scales, at most 448. -/
def sbA (A : Fin 96 → Fin 3456 → EReal) (g : Fin 96) (n : Fin 3456) : EReal :=
  FloatOps.minimumf (F := Ideal) (φ := .f32) (Ideal.div (A g n) (FloatOps.mulf (F := Ideal) (φ := .f32) (FloatOps.ofBits .f32 0x40C00000#32) (stA A))) (FloatOps.ofBits .f32 0x43E00000#32)

theorem total_apply (x : Vec Ideal S96x3456 .f32) (j : S1.Idx) :
    multiReduction .maximumf [1, 2] S1 (shapeCast S1x96x3456 x shapeCasts_S96x3456_S1x96x3456 : FVec Ideal S1x96x3456 .f32) 0xFF800000#32 reduces_S1x96x3456_S1 (.inl rfl) rfl j
      = tot (fun g n => x (ix2 g n)) := by
  refine (multiReduction_maximumf_eq_fold (F := Ideal) (φ := .f32) _ _ _ _ _ _).trans ?_
  rw [Finset.filter_true_of_mem (fun i _ => funext fun a => Fin.ext (by
    match a with
    | ⟨0, _⟩ => exact (Nat.lt_one_iff.mp (Fin.isLt _)).trans (Nat.lt_one_iff.mp (Fin.isLt _)).symm))]
  refine (fold_sup _ _).trans ?_
  have hx : ∀ (u : Fin 1) (g : Fin 96) (n : Fin 3456), shapeCast S1x96x3456 x shapeCasts_S96x3456_S1x96x3456 (Idealize.ShloMosaic.ValueIdx.ix3 u g n) = x (ix2 g n) := fun u g n =>
    shapeCast_apply _ _ _ _ (by
      rewrite [Shape.rowMajor_val_two, Shape.rowMajor_val_three]
      have hu := u.isLt
      show g.val * 3456 + n.val = (u.val * 96 + g.val) * 3456 + n.val
      omega)
  unfold tot
  refine le_antisymm (Finset.sup_le fun i _ => ?_) (Finset.sup_le fun p _ => ?_)
  · have ei : i = Idealize.ShloMosaic.ValueIdx.ix3 (i 0) (i 1) (i 2) := funext fun a => match a with
      | ⟨0, _⟩ => rfl
      | ⟨1, _⟩ => rfl
      | ⟨2, _⟩ => rfl
    rw [ei]
    refine le_trans (le_of_eq (hx (i 0) (i 1) (i 2))) ?_
    exact Finset.le_sup (f := fun p : Fin 96 × Fin 3456 => (x (ix2 p.1 p.2) : EReal)) (Finset.mem_univ ((i 1, i 2) : Fin 96 × Fin 3456))
  · refine le_trans (le_of_eq (hx 0 p.1 p.2).symm) ?_
    exact Finset.le_sup (f := (shapeCast S1x96x3456 x shapeCasts_S96x3456_S1x96x3456 : S1x96x3456.Idx → EReal)) (Finset.mem_univ _)

theorem pay99_apply (x : Vec Ideal S96x3456 .f32) : k0_pay99 (F := Ideal) x = stA (fun g n => x (ix2 g n)) := by
  unfold k0_pay99 stA
  dsimp only
  have e : extractAt ![0, 0, 0] (shapeCast S1x1x1 (multiReduction .maximumf [1, 2] S1 (shapeCast S1x96x3456 x shapeCasts_S96x3456_S1x96x3456 : FVec Ideal S1x96x3456 .f32) 0xFF800000#32 reduces_S1x96x3456_S1 (.inl rfl) rfl) shapeCasts_S1_S1x1x1) inpos_S1x1x1_p0_0_0
      = tot (fun g n => x (ix2 g n)) := by
    unfold extractAt
    rw [shapeCast_apply (k := ix1 0) (hk := by
      rewrite [Shape.rowMajor_val_one, Shape.rowMajor_val_three]; rfl)]
    exact total_apply x _
  rw [e, IdealRules.named_const.ideal_named_scalar κ "per_div" (φ := .f32) 0x39C30C31#32 ((1 / 2688 : ℝ) : EReal) rfl]
  rfl

theorem pay34_apply (v : Vec Ideal S96x384 .f32) (s : Ideal .f32) (y : S96x384.Idx) :
    k0_pay34 (F := Ideal) v s y = FloatOps.minimumf (F := Ideal) (φ := .f32) (Ideal.div (v y) (FloatOps.mulf (F := Ideal) (φ := .f32) (FloatOps.ofBits .f32 0x40C00000#32) s)) (FloatOps.ofBits .f32 0x43E00000#32) := by
  unfold k0_pay34
  rfl

end Cert.Proof.KI
end
-- ==== Proof.Value.lean ====
module
public import proofs.«01_k».proof.Proof.Run
public import proofs.«01_k».proof.Proof.Maxima
public import Idealize.ShloMosaic.Lib.ValueIdx
public import Idealize.ShloMosaic.Lib.MatmulPlain
public import Idealize.ShloMosaic.Lib.Pipeline.Value
public import Idealize.ShloMosaic.Lib.Pipeline.ValueKit
@[expose] public section
set_option maxRecDepth 16384
noncomputable section
namespace Cert.Proof.KI
open Cert.KernelIdeal Cert.KernelIdeal.Gen
open Idealize.ShloMosaic hiding ix1 ix2 ix3 eq_ix2 eq_ix1 eq_ix3 mulf_apply
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
variable {F : FTy → Type} [FloatOps F]
local notation "𝕄" => MT nD τ sig Unit (Elt F) ℕ (UR sig nD τ) ℕ

/-! ## The result arrays, element by element, over the extended reals -/

variable (m : (ℓ : Loc nD τ sig) → Buf (Elt Ideal) ℓ) (ρ : Dev nD → PrngReg)

/-- The five arguments of the launch. -/
def aX (c : Dev nD) : Vec Ideal S1536x5120 .bf16 := m ((c.tc : Thread nD τ).loc main_arg0)
def aXs (c : Dev nD) : Vec Ideal S1 .f32 := m ((c.tc : Thread nD τ).loc main_arg1)
def aG (c : Dev nD) : Vec Ideal S1536x3456 .bf16 := m ((c.tc : Thread nD τ).loc main_arg2)
def aDy (c : Dev nD) : Vec Ideal S1536x3456 .bf16 := m ((c.tc : Thread nD τ).loc main_arg3)
def aSg (c : Dev nD) : Vec Ideal S16 .f32 := m ((c.tc : Thread nD τ).loc main_arg4)

/-- The largest magnitude of group `g` of column `n` of the gradient, rotated. -/
def mxK (c : Dev nD) (g : Fin 96) (n : Fin 3456) : EReal :=
  grp (fun k => aSg m c (ix1 k)) (fun j => aG m c (ix2 ⟨16 * g.val + j.val, by omega⟩ n))

/-- The weight gradient: the sum over the tokens, times the product of the two tensor scales. -/
def dw (c : Dev nD) : Vec Ideal S3456x5120 .f32 := fun i =>
  (∑ t : Fin 1536, aDy m c (ix2 t (i 0)) * aX m c (ix2 t (i 1))) * (stA (mxK m c) * aXs m c (ix1 0))

/-- The block scales. -/
def sb (c : Dev nD) : Vec Ideal S96x3456 .fp8e4m3 := fun i => sbA (mxK m c) (i 0) (i 1)

/-- The gradient's tensor scale. -/
def ts (c : Dev nD) : Vec Ideal S1 .f32 := fun _ => stA (mxK m c)

/-! ### The body's product -/

theorem pay_apply (s : Ideal .f32) (xh : Vec Ideal S256x1536 .bf16) (d : Vec Ideal S432x1536 .bf16) (r : Fin 432) (q : Fin 256) :
    k0_pay9 s xh d (ix2 r q) = (∑ t : Fin 1536, d (ix2 r t) * xh (ix2 q t)) * s := by
  unfold k0_pay9
  have e := Ideal.matmul_transposedRhs_apply (φ₁ := .bf16) (φ₂ := .bf16) none d xh (constant S432x256 .f32 0x00000000#32) r q
  have z : (constant S432x256 .f32 0x00000000#32 : FVec Ideal S432x256 .f32) (ix2 r q) = 0 := by
    show Ideal.ofBits .f32 0x00000000#32 = 0
    simp [Ideal.ofBits, Ideal.ieee]
  rw [z, zero_add] at e
  show FloatOps.matmul (F := Ideal) (φ₁ := .bf16) (φ₂ := .bf16) (DotDims.transposedRhs 432 1536 256) none d xh (constant S432x256 .f32 0x00000000#32) (ix2 r q) * s = _
  rw [e]

/-- One block of the result: every element is the whole sum over the tokens, scaled. -/
def G (s : Ideal .f32) (xh : Vec Ideal S256x1536 .bf16) (dy : Vec Ideal S3456x1536 .bf16) : Vec Ideal S3456x256 .f32 := fun y =>
  (∑ t : Fin 1536, dy (ix2 (y 0) t) * xh (ix2 (y 1) t)) * s

theorem piece_apply (s : Ideal .f32) (xh : Vec Ideal S256x1536 .bf16) (dy : Vec Ideal S3456x1536 .bf16) (o : ℕ)
    (h1 : ∀ a, (![o, 0] : Fin 2 → ℕ) a + S432x256.size a ≤ S3456x256.size a) (h2 : ∀ a, (![o, 0] : Fin 2 → ℕ) a + S432x1536.size a ≤ S3456x1536.size a)
    (x : S432x256.Idx) :
    k0_pay9 s xh (View.ld dy (Rect.unit (s := S3456x1536) ![o, 0] S432x1536.size h2)) x = G s xh dy ((Rect.unit (s := S3456x256) ![o, 0] S432x256.size h1).emb x) := by
  have ex : x = ix2 (x 0) (x 1) := (eq_ix2 x)
  refine (congrArg _ ex).trans ((pay_apply s xh _ (x 0) (x 1)).trans ?_)
  refine Eq.trans ?_ (congrArg (fun z => G s xh dy ((Rect.unit (s := S3456x256) ![o, 0] S432x256.size h1).emb z)) ex.symm)
  unfold G
  refine congrArg (· * s) (Finset.sum_congr rfl fun t _ => ?_)
  have e1 : View.ld dy (Rect.unit (s := S3456x1536) ![o, 0] S432x1536.size h2) (ix2 (x 0) t)
      = dy (ix2 ((Rect.unit (s := S3456x256) ![o, 0] S432x256.size h1).emb (ix2 (x 0) (x 1)) 0) t) := by
    refine congrArg dy (funext fun a => Fin.ext ?_)
    match a with
    | ⟨0, _⟩ => rfl
    | ⟨1, _⟩ => show 0 + 1 * t.val = t.val; omega
  have e2 : xh (ix2 (x 1) t) = xh (ix2 ((Rect.unit (s := S3456x256) ![o, 0] S432x256.size h1).emb (ix2 (x 0) (x 1)) 1) t) := by
    refine congrArg xh (congrArg (fun z => ix2 z t) (Fin.ext ?_))
    show (x 1).val = 0 + 1 * (x 1).val; omega
  exact congrArg₂ (· * ·) e1 e2

theorem outv_eq (s : Ideal .f32) (xh : Vec Ideal S256x1536 .bf16) (dy : Vec Ideal S3456x1536 .bf16) : outv s xh dy = G s xh dy := by
  funext y
  unfold outv
  refine View.canon_apply_of_pieces (G s xh dy) _ ?_ y (View.cover_of_tiled (s := S3456x256) _ S432x256.size (by rfl) y)
  intro p hp
  simp only [List.mem_cons, List.not_mem_nil, or_false] at hp
  rcases hp with rfl | rfl | rfl | rfl | rfl | rfl | rfl | rfl
  · exact fun x => piece_apply s xh dy 3024 inb_S3456x256_S432x256_3024_0 inb_S3456x1536_S432x1536_3024_0 x
  · exact fun x => piece_apply s xh dy 2592 inb_S3456x256_S432x256_2592_0 inb_S3456x1536_S432x1536_2592_0 x
  · exact fun x => piece_apply s xh dy 2160 inb_S3456x256_S432x256_2160_0 inb_S3456x1536_S432x1536_2160_0 x
  · exact fun x => piece_apply s xh dy 1728 inb_S3456x256_S432x256_1728_0 inb_S3456x1536_S432x1536_1728_0 x
  · exact fun x => piece_apply s xh dy 1296 inb_S3456x256_S432x256_1296_0 inb_S3456x1536_S432x1536_1296_0 x
  · exact fun x => piece_apply s xh dy 864 inb_S3456x256_S432x256_864_0 inb_S3456x1536_S432x1536_864_0 x
  · exact fun x => piece_apply s xh dy 432 inb_S3456x256_S432x256_432_0 inb_S3456x1536_S432x1536_432_0 x
  · exact fun x => piece_apply s xh dy 0 inb_S3456x256_S432x256_0_0 inb_S3456x1536_S432x1536_0_0 x

/-! ### The blocks are blocks of the arguments -/

theorem idx2 : ∀ t : Fin cfg0.N, win0_2.index t (0 : Fin 2) = min t.val 5 ∧ win0_2.index t (1 : Fin 2) = 0 :=
  (by decide +kernel : ∀ t : Fin grid0.N, win0_2.index t (0 : Fin 2) = min t.val 5 ∧ win0_2.index t (1 : Fin 2) = 0)
theorem idx3 : ∀ t : Fin cfg0.N, win0_3.index t (0 : Fin 2) = 0 ∧ win0_3.index t (1 : Fin 2) = min (t.val - 6) 8 :=
  (by decide +kernel : ∀ t : Fin grid0.N, win0_3.index t (0 : Fin 2) = 0 ∧ win0_3.index t (1 : Fin 2) = min (t.val - 6) 8)
theorem idx4 : ∀ t : Fin cfg0.N, win0_4.index t (0 : Fin 2) = 0 ∧ win0_4.index t (1 : Fin 2) = min (t.val - 15) 19 :=
  (by decide +kernel : ∀ t : Fin grid0.N, win0_4.index t (0 : Fin 2) = 0 ∧ win0_4.index t (1 : Fin 2) = min (t.val - 15) 19)
theorem idx5 : ∀ t : Fin cfg0.N, win0_5.index t (0 : Fin 2) = 0 ∧ win0_5.index t (1 : Fin 2) = min (t.val - 16) 19 :=
  (by decide +kernel : ∀ t : Fin grid0.N, win0_5.index t (0 : Fin 2) = 0 ∧ win0_5.index t (1 : Fin 2) = min (t.val - 16) 19)
theorem idx6 : ∀ t : Fin cfg0.N, win0_6.index t (0 : Fin 2) = 0 ∧ win0_6.index t (1 : Fin 2) = min (t.val - 6) 8 :=
  (by decide +kernel : ∀ t : Fin grid0.N, win0_6.index t (0 : Fin 2) = 0 ∧ win0_6.index t (1 : Fin 2) = min (t.val - 6) 8)
theorem idx0 : ∀ t : Fin cfg0.N, win0_0.index t (0 : Fin 1) = 0 := (by decide +kernel : ∀ t : Fin grid0.N, win0_0.index t (0 : Fin 1) = 0)
theorem idx7 : ∀ t : Fin cfg0.N, win0_7.index t (0 : Fin 1) = 0 := (by decide +kernel : ∀ t : Fin grid0.N, win0_7.index t (0 : Fin 1) = 0)

theorem gB_apply (c : Dev nD) (t : Fin cfg0.N) (p : Fin 256) (q : Fin 3456) (j : Fin 1536) (hj : j.val = min t.val 5 * 256 + p.val) :
    gB m c t (ix2 p q) = aG m c (ix2 j q) := by
  obtain ⟨e0, e1⟩ := idx2 t
  refine congrArg (m ((c.tc : Thread nD τ).loc main_arg2)) (funext fun a => Fin.ext ?_)
  match a with
  | ⟨0, _⟩ => blk_simp [e0]; exact hj.symm
  | ⟨1, _⟩ => blk_simp [e1]

theorem dyB_apply (c : Dev nD) (t : Fin cfg0.N) (p : Fin 1536) (q : Fin 384) (j : Fin 3456) (hj : j.val = min (t.val - 6) 8 * 384 + q.val) :
    dyB m c t (ix2 p q) = aDy m c (ix2 p j) := by
  obtain ⟨e0, e1⟩ := idx3 t
  refine congrArg (m ((c.tc : Thread nD τ).loc main_arg3)) (funext fun a => Fin.ext ?_)
  match a with
  | ⟨0, _⟩ => blk_simp [e0]
  | ⟨1, _⟩ => blk_simp [e1]; exact hj.symm

theorem xB_apply (c : Dev nD) (t : Fin cfg0.N) (p : Fin 1536) (q : Fin 256) (j : Fin 5120) (hj : j.val = min (t.val - 15) 19 * 256 + q.val) :
    xB m c t (ix2 p q) = aX m c (ix2 p j) := by
  obtain ⟨e0, e1⟩ := idx4 t
  refine congrArg (m ((c.tc : Thread nD τ).loc main_arg0)) (funext fun a => Fin.ext ?_)
  match a with
  | ⟨0, _⟩ => blk_simp [e0]
  | ⟨1, _⟩ => blk_simp [e1]; exact hj.symm

theorem xsB_apply (c : Dev nD) (t : Fin cfg0.N) : xsB m c t (ix1 0) = aXs m c (ix1 0) :=
  congrArg (m ((c.tc : Thread nD τ).loc main_arg1)) (funext fun a => Fin.ext (by match a with | ⟨0, _⟩ => exact (Nat.lt_one_iff.mp (Fin.isLt _)).trans rfl))

theorem sgB_apply (c : Dev nD) (t : Fin cfg0.N) (k : Fin 16) : sgB m c t (ix1 k) = aSg m c (ix1 k) := by
  have e0 := idx0 t
  refine congrArg (m ((c.tc : Thread nD τ).loc main_arg4)) (funext fun a => Fin.ext ?_)
  match a with
  | ⟨0, _⟩ => blk_simp [e0]

/-- The block maxima the first six steps leave are the groups' largest magnitudes. -/
theorem adyF_apply (c : Dev nD) (g : Fin 96) (n : Fin 3456) : adyF m c (ix2 g n) = mxK m c g n := by
  have hg := g.isLt
  have hn := n.isLt
  have hw : (fun k => sgB m c (pt 0) (ix1 k)) = fun k => aSg m c (ix1 k) := funext fun k => sgB_apply m c _ k
  show amaxB (rpM (fun k => sgB m c (pt 0) (ix1 k))) (gB m c (pt (g.val / 16))) ⟨g.val % 16, _⟩ n = _
  rw [hw]
  have hx : ∀ j : Fin 16, gB m c (pt (g.val / 16)) (ix2 ⟨16 * (g.val % 16) + j.val, by omega⟩ n) = aG m c (ix2 ⟨16 * g.val + j.val, by omega⟩ n) := fun j => by
    refine gB_apply m c _ _ _ _ ?_
    show 16 * g.val + j.val = min (min (g.val / 16) 35) 5 * 256 + (16 * (g.val % 16) + j.val)
    omega
  unfold amaxB mxK
  split
  · rw [pay19_apply]
    refine congrArg (grp _) (funext fun j => Eq.trans ?_ (hx j))
    refine congrArg (gB m c (pt (g.val / 16))) (funext fun a => Fin.ext ?_)
    match a with
    | ⟨0, _⟩ => rfl
    | ⟨1, _⟩ => show 256 * (n.val / 256) + n.val % 256 = n.val; omega
  · rw [pay98_apply]
    refine congrArg (grp _) (funext fun j => Eq.trans ?_ (hx j))
    refine congrArg (gB m c (pt (g.val / 16))) (funext fun a => Fin.ext ?_)
    match a with
    | ⟨0, _⟩ => rfl
    | ⟨1, _⟩ => show 3328 + (n.val - 3328) = n.val; omega

theorem st_apply (c : Dev nD) : k0_pay99 (adyF m c) = stA (mxK m c) := by
  rw [pay99_apply]
  exact congrArg stA (funext fun g => funext fun n => adyF_apply m c g n)

theorem dyF_apply (c : Dev nD) (n : Fin 3456) (t : Fin 1536) : dyF m c (ix2 n t) = aDy m c (ix2 t n) := by
  show dyB m c (pt (6 + n.val / 384)) (ix2 t ⟨n.val % 384, _⟩) = _
  refine dyB_apply m c _ t _ n ?_
  have := n.isLt
  show n.val = min (min (6 + n.val / 384) 35 - 6) 8 * 384 + n.val % 384
  omega

/-- The block step `t` of phase C leaves, element by element. -/
theorem dwB_apply (c : Dev nD) (t : Fin cfg0.N) (h : 16 ≤ t.val) (n : Fin 3456) (q : Fin 256) (j : Fin 5120) (hj : j.val = (t.val - 16) * 256 + q.val) :
    dwB m c t.val (ix2 n q) = dw m c (ix2 n j) := by
  have ht := lt36 t
  have s1 : stF m c (ix1 1) = k0_pay99 (adyF m c) := by unfold stF pair; exact if_neg (by decide)
  have s0 : stF m c (ix1 0) = xsB m c (pt 6) (ix1 0) := by unfold stF pair; exact if_pos rfl
  unfold dwB
  rw [outv_eq, s1, s0, xsB_apply, st_apply]
  show (∑ s : Fin 1536, dyF m c (ix2 n s) * xB m c (pt (t.val - 1)) (ix2 s q)) * (stA (mxK m c) * aXs m c (ix1 0)) = _
  show _ = (∑ s : Fin 1536, aDy m c (ix2 s n) * aX m c (ix2 s j)) * _
  refine congrArg (· * _) (Finset.sum_congr rfl fun s _ => ?_)
  rw [dyF_apply, xB_apply m c _ s q j]
  show j.val = min (min (t.val - 1) 35 - 15) 19 * 256 + q.val
  omega

theorem sbB_apply (c : Dev nD) (t : ℕ) (g : Fin 96) (q : Fin 384) (j : Fin 3456) (hj : j.val = min (t - 6) 8 * 384 + q.val) :
    sbB m c t (ix2 g q) = sb m c (ix2 g j) := by
  unfold sbB
  rw [pay34_apply, st_apply]
  have e : colsA (qn t) (adyF m c) (ix2 g q) = mxK m c g j := by
    refine Eq.trans (congrArg (adyF m c) (funext fun a => Fin.ext ?_)) (adyF_apply m c g j)
    match a with
    | ⟨0, _⟩ => rfl
    | ⟨1, _⟩ => show 384 * min (t - 6) 8 + q.val = j.val; omega
  rw [e]
  rfl
theorem flushed5 (c : Dev nD) (t : Fin cfg0.N) (hf : (cfg0.win 5).flush t = true) :
    (dats m 0 c).flushed 5 t = ((cfg0.win 5).blk t).view.read (Elt Ideal) (dw m c) := by
  have h := (flush5_iff t).mp hf
  have ht := lt36 t
  obtain ⟨e0, e1⟩ := idx5 t
  funext y
  show (cfg0.win 5).cut (grid0.coords t) ((dats m 0 c).after 5 t) y = dw m c (((cfg0.win 5).blk t).view.emb y)
  rw [after0_5]
  have hq : (y 1).val < 256 := (y 1).isLt
  have hn : (y 0).val < 3456 := (y 0).isLt
  have ey : ((cfg0.win 5).blk t).view.emb y = ix2 ⟨(y 0).val, hn⟩ ⟨(t.val - 16) * 256 + (y 1).val, by omega⟩ := by
    funext a; apply Fin.ext
    match a with
    | ⟨0, _⟩ => blk_simp [e0]; rfl
    | ⟨1, _⟩ => blk_simp [e1]; exact (by omega : min (t.val - 16) 19 * 256 + (y 1).val = (t.val - 16) * 256 + (y 1).val)
  rw [ey]
  have ec : (cfg0.win 5).cut (grid0.coords t) (dwB m c t.val) y = dwB m c t.val (ix2 ⟨(y 0).val, hn⟩ ⟨(y 1).val, hq⟩) := by
    refine congrArg (dwB m c t.val) (funext fun a => Fin.ext ?_)
    match a with
    | ⟨0, _⟩ => rfl
    | ⟨1, _⟩ => rfl
  rw [ec]
  exact dwB_apply m c t h _ _ _ rfl

theorem cover5 (i : S3456x5120.Idx) : ∃ t : Fin cfg0.N, (cfg0.win 5).flush t = true ∧ i ∈ ((cfg0.win 5).blk t).view.set := by
  have h0 : (i 0).val < 3456 := (i 0).isLt
  have h1 : (i 1).val < 5120 := (i 1).isLt
  have hN : cfg0.N = 36 := N_0
  obtain ⟨e0, e1⟩ := idx5 ⟨16 + (i 1).val / 256, by omega⟩
  refine ⟨⟨16 + (i 1).val / 256, by omega⟩, (flush5_iff _).mpr (by show 16 ≤ 16 + _; omega), ?_⟩
  mem_blk [e0, e1]
  dsimp only at *
  omega

theorem final5 (c : Dev nD) : (dats m 0 c).arrAt 5 cfg0.N = dw m c :=
  (dats m 0 c).arrAt_eq_of_cover 5 (dw m c) (fun t hf => flushed5 m c t hf) cover5

theorem flushed6 (c : Dev nD) (t : Fin cfg0.N) (hf : (cfg0.win 6).flush t = true) :
    (dats m 0 c).flushed 6 t = ((cfg0.win 6).blk t).view.read (Elt Ideal) (sb m c) := by
  have ht := lt36 t
  obtain ⟨e0, e1⟩ := idx6 t
  funext y
  show (cfg0.win 6).cut (grid0.coords t) ((dats m 0 c).after 6 t) y = sb m c (((cfg0.win 6).blk t).view.emb y)
  rw [after0_6]
  have hq : (y 1).val < 384 := (y 1).isLt
  have hn : (y 0).val < 96 := (y 0).isLt
  have ey : ((cfg0.win 6).blk t).view.emb y = ix2 ⟨(y 0).val, hn⟩ ⟨min (t.val - 6) 8 * 384 + (y 1).val, by omega⟩ := by
    funext a; apply Fin.ext
    match a with
    | ⟨0, _⟩ => blk_simp [e0]; rfl
    | ⟨1, _⟩ => blk_simp [e1]; rfl
  rw [ey]
  have ec : (cfg0.win 6).cut (grid0.coords t) (sbB m c t.val) y = sbB m c t.val (ix2 ⟨(y 0).val, hn⟩ ⟨(y 1).val, hq⟩) := by
    refine congrArg (sbB m c t.val) (funext fun a => Fin.ext ?_)
    match a with
    | ⟨0, _⟩ => rfl
    | ⟨1, _⟩ => rfl
  rw [ec]
  exact sbB_apply m c t.val _ _ _ rfl

theorem cover6 (i : S96x3456.Idx) : ∃ t : Fin cfg0.N, (cfg0.win 6).flush t = true ∧ i ∈ ((cfg0.win 6).blk t).view.set := by
  have h0 : (i 0).val < 96 := (i 0).isLt
  have h1 : (i 1).val < 3456 := (i 1).isLt
  have hN : cfg0.N = 36 := N_0
  by_cases h8 : (i 1).val / 384 = 8
  · obtain ⟨t, ht⟩ : ∃ t : Fin cfg0.N, t.val = 35 := ⟨⟨35, by omega⟩, rfl⟩
    obtain ⟨e0, e1⟩ := idx6 t
    refine ⟨t, (flush6_iff _).mpr (Or.inr ht), ?_⟩
    mem_blk [e0, e1]
    dsimp only at *
    omega
  · obtain ⟨e0, e1⟩ := idx6 ⟨6 + (i 1).val / 384, by omega⟩
    refine ⟨⟨6 + (i 1).val / 384, by omega⟩, (flush6_iff _).mpr (Or.inl ⟨by show 6 ≤ 6 + _; omega, by show 6 + _ < 14; omega⟩), ?_⟩
    mem_blk [e0, e1]
    dsimp only at *
    omega

theorem final6 (c : Dev nD) : (dats m 0 c).arrAt 6 cfg0.N = sb m c :=
  (dats m 0 c).arrAt_eq_of_cover 6 (sb m c) (fun t hf => flushed6 m c t hf) cover6

theorem flushed7 (c : Dev nD) (t : Fin cfg0.N) (hf : (cfg0.win 7).flush t = true) :
    (dats m 0 c).flushed 7 t = ((cfg0.win 7).blk t).view.read (Elt Ideal) (ts m c) := by
  funext y
  show (cfg0.win 7).cut (grid0.coords t) ((dats m 0 c).after 7 t) y = ts m c (((cfg0.win 7).blk t).view.emb y)
  rw [after0_7]
  exact st_apply m c

theorem cover7 (i : S1.Idx) : ∃ t : Fin cfg0.N, (cfg0.win 7).flush t = true ∧ i ∈ ((cfg0.win 7).blk t).view.set := by
  have h0 : (i 0).val < 1 := (i 0).isLt
  have hN : cfg0.N = 36 := N_0
  obtain ⟨t, ht⟩ : ∃ t : Fin cfg0.N, t.val = 35 := ⟨⟨35, by omega⟩, rfl⟩
  have e0 := idx7 t
  refine ⟨t, (flush7_iff _).mpr ht, ?_⟩
  mem_blk [e0]
  exact ⟨Nat.zero_le _, h0⟩

theorem final7 (c : Dev nD) : (dats m 0 c).arrAt 7 cfg0.N = ts m c :=
  (dats m 0 c).arrAt_eq_of_cover 7 (ts m c) (fun t hf => flushed7 m c t hf) cover7

/-- The run read: the three results at their values, the arguments unchanged. -/
theorem run : θ_run defs (onTc (τ := τ) (main (F := Ideal))) ⟨m, fun _ => 0, ρ⟩ fun r => ∀ c : Dev nD,
      r.2.mem ((c.tc : Thread nD τ).loc main_v0_0) = dw m c
      ∧ r.2.mem ((c.tc : Thread nD τ).loc main_v0_1) = sb m c
      ∧ r.2.mem ((c.tc : Thread nD τ).loc main_v0_2) = ts m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c), ((h c).1 6).trans (final6 m c), ((h c).1 7).trans (final7 m c),
      ((h c).1 4).trans ((dats m 0 c).arrAt_in 4 rfl _), ((h c).1 1).trans ((dats m 0 c).arrAt_in 1 rfl _),
      ((h c).1 2).trans ((dats m 0 c).arrAt_in 2 rfl _), ((h c).1 3).trans ((dats m 0 c).arrAt_in 3 rfl _), ((h c).1 0).trans ((dats m 0 c).arrAt_in 0 rfl _)⟩)
    (run_main m ρ)

end Cert.Proof.KI
end
-- ==== Proof.RefValue.lean ====
module
public import proofs.«01_k».proof.Proof.Maxima
public import Idealize.ShloMosaic.Lib.ValueIdx
public import Idealize.ShloMosaic.Lib.MatmulPlain
public import Idealize.ShloMosaic.Lib.Pipeline.Value
public import Idealize.ShloMosaic.Lib.Pipeline.ValueKit
public import Idealize.ShloMosaic.Lib.KernelVsHost
public import Idealize.ShloMosaic.PureOps.Ideal.Laws
public import proofs.«01_k».proof.Proof.Gen.ReferenceIdeal.Read
@[expose] public section
set_option maxRecDepth 16384
noncomputable section
namespace Cert.Proof.KI
open Cert.KernelIdeal Cert.KernelIdeal.Gen
open Idealize.ShloMosaic hiding ix1 ix2 ix3 eq_ix2 eq_ix1 eq_ix3 mulf_apply
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
variable {F : FTy → Type} [FloatOps F]

end Cert.Proof.KI

/-! ## The reference's results, element by element -/

namespace Cert.Proof.RI
open Cert.ReferenceIdeal Cert.ReferenceIdeal.Gen Cert.ReferenceIdeal.Read
open Idealize.ShloMosaic hiding ix1 ix2 ix3 eq_ix2 eq_ix1 eq_ix3 mulf_apply
open Idealize.ShloMosaic.TcCoe Idealize.SL.Sem Idealize.ShloMosaic.ValueIdx
open Cert.Proof.KI (rotv hv qv grp grp_sup fold_sup tot stA sbA pb ofBits_div)

/-- The largest magnitude of group `g` of column `n`, rotated. -/
def mx (dy : Vec Ideal S1536x3456 .bf16) (sg : Vec Ideal S16 .f32) (g : Fin 96) (n : Fin 3456) : EReal :=
  grp (fun k => sg (ix1 k)) (fun j => dy (ix2 ⟨16 * g.val + j.val, by omega⟩ n))

theorem v18_apply (sg : Vec Ideal S16 .f32) (i j : Fin 16) : val_main_v18 (F := Ideal) sg (ix2 i j) = (hv i j * sg (ix1 j)) * qv := by
  rw [val_main_v18_apply, val_main_v16_apply, val_main_v13_apply, val_main_v12_apply, val_main_v11_apply, val_main_v10_apply, val_main_v9_apply, val_main_v8_apply, val_main_v7_apply,
    val_main_v6_apply, val_main_v5_apply, val_main_v4_apply, val_main_v3_apply, val_main_v2_apply, val_main_v1_apply, val_main_v0_apply, val_main_v0_apply,
    val_main_v15_apply, val_main_v14_apply, val_main_v17_apply]
  have e : idx_main_v14 (idx_main_v15 (ix2 i j)) = (ix1 j : S16.Idx) := funext fun a => match a with | ⟨0, _⟩ => rfl
  rw [e]
  rfl

theorem v22_apply (dy : Vec Ideal S1536x3456 .bf16) (sg : Vec Ideal S16 .f32) (g : Fin 96) (i : Fin 16) (n : Fin 3456) :
    val_main_v22 (F := Ideal) dy sg (Idealize.ShloMosaic.ValueIdx.ix3 g i n) = rotv (fun k => sg (ix1 k)) (fun j => dy (ix2 ⟨16 * g.val + j.val, by omega⟩ n)) i := by
  rw [val_main_v22_apply, val_main_v21_apply]
  unfold rotv
  refine Finset.sum_congr rfl fun k _ => ?_
  have er : ridx_main_v21 (idx_main_v22 (Idealize.ShloMosaic.ValueIdx.ix3 g i n)) k = (ix2 i k : S16x16.Idx) := funext fun a => match a with
    | ⟨0, _⟩ => rfl
    | ⟨1, _⟩ => rfl
  rw [er, v18_apply, val_main_v20_apply, val_main_v19_apply]
  refine congrArg (· * _) ?_
  refine congrArg dy (funext fun a => Fin.ext ?_)
  have hk := k.isLt
  have hn := n.isLt
  match a with
  | ⟨0, _⟩ => show ((g.val * 16 + k.val) * 3456 + n.val) / 3456 = 16 * g.val + k.val; omega
  | ⟨1, _⟩ => show ((g.val * 16 + k.val) * 3456 + n.val) % 3456 = n.val; omega

theorem reduces_mid : S96x16x3456.Reduces [1] S96x3456 := by decide

theorem v30_apply (dy : Vec Ideal S1536x3456 .bf16) (sg : Vec Ideal S16 .f32) (g : Fin 96) (n : Fin 3456) :
    val_main_v30 (F := Ideal) dy sg (ix2 g n) = mx dy sg g n := by
  unfold val_main_v30
  rw [Host.reduce_eq_fold_single FloatOps.maximumf _ _ reducesTo_S96x16x3456_S96x3456_d1 reduces_mid]
  refine (fold_sup _ _).trans ?_
  unfold mx
  rw [grp_sup]
  refine congrArg (Finset.sup _) (funext fun i => ?_)
  have el : reduces_mid.lift (ix2 g n) i = (Idealize.ShloMosaic.ValueIdx.ix3 g i n : S96x16x3456.Idx) := funext fun a => match a with
    | ⟨0, _⟩ => rfl
    | ⟨1, _⟩ => rfl
    | ⟨2, _⟩ => rfl
  show val_main_v29 (F := Ideal) dy sg (reduces_mid.lift (ix2 g n) i) = _
  rw [el]
  exact congrArg (FloatOps.absf (F := Ideal) (φ := .f32)) (v22_apply dy sg g i n)

/-- A largest entry over three axes is the largest over two of the largest along the third. -/
theorem sup_eq_tot (v : S96x16x3456.Idx → EReal) (A : Fin 96 → Fin 3456 → EReal) (h1 : ∀ (g : Fin 96) (i : Fin 16) (n : Fin 3456), v (Idealize.ShloMosaic.ValueIdx.ix3 g i n) ≤ A g n)
    (h2 : ∀ (g : Fin 96) (n : Fin 3456) (b : EReal), (∀ i : Fin 16, v (Idealize.ShloMosaic.ValueIdx.ix3 g i n) ≤ b) → A g n ≤ b) : Finset.univ.sup v = tot A := by
  unfold tot
  refine le_antisymm (Finset.sup_le fun i _ => ?_) (Finset.sup_le fun p _ => ?_)
  · obtain ⟨g, k, n, rfl⟩ : ∃ (g : Fin 96) (k : Fin 16) (n : Fin 3456), i = Idealize.ShloMosaic.ValueIdx.ix3 g k n := ⟨i 0, i 1, i 2, funext fun a => match a with
      | ⟨0, _⟩ => rfl
      | ⟨1, _⟩ => rfl
      | ⟨2, _⟩ => rfl⟩
    exact le_trans (h1 g k n) (Finset.le_sup (f := fun p : Fin 96 × Fin 3456 => A p.1 p.2) (Finset.mem_univ ((g, n) : Fin 96 × Fin 3456)))
  · exact h2 p.1 p.2 _ fun i => Finset.le_sup (f := v) (Finset.mem_univ _)

theorem v23_apply (dy : Vec Ideal S1536x3456 .bf16) (sg : Vec Ideal S16 .f32) (g : Fin 96) (i : Fin 16) (n : Fin 3456) :
    val_main_v23 (F := Ideal) dy sg (Idealize.ShloMosaic.ValueIdx.ix3 g i n)
      = FloatOps.absf (F := Ideal) (φ := .f32) (rotv (fun k => sg (ix1 k)) (fun j => dy (ix2 ⟨16 * g.val + j.val, by omega⟩ n)) i) :=
  congrArg (FloatOps.absf (F := Ideal) (φ := .f32)) (v22_apply dy sg g i n)

theorem mag_le (dy : Vec Ideal S1536x3456 .bf16) (sg : Vec Ideal S16 .f32) (g : Fin 96) (i : Fin 16) (n : Fin 3456) :
    (val_main_v23 (F := Ideal) dy sg (Idealize.ShloMosaic.ValueIdx.ix3 g i n) : EReal) ≤ mx dy sg g n := by
  rw [v23_apply]
  unfold mx
  rw [grp_sup]
  generalize rotv (fun k => sg (ix1 k)) (fun j => dy (ix2 ⟨16 * g.val + j.val, by omega⟩ n)) = f
  exact Finset.le_sup (f := fun k => (FloatOps.absf (F := Ideal) (φ := .f32) (f k) : EReal)) (Finset.mem_univ i)

theorem mx_le (dy : Vec Ideal S1536x3456 .bf16) (sg : Vec Ideal S16 .f32) (g : Fin 96) (n : Fin 3456) (b : EReal)
    (h : ∀ i : Fin 16, (val_main_v23 (F := Ideal) dy sg (Idealize.ShloMosaic.ValueIdx.ix3 g i n) : EReal) ≤ b) : mx dy sg g n ≤ b := by
  unfold mx
  rw [grp_sup]
  refine Finset.sup_le fun i _ => ?_
  have := h i
  rw [v23_apply] at this
  exact this

theorem v24_apply (dy : Vec Ideal S1536x3456 .bf16) (sg : Vec Ideal S16 .f32) (j : S_.Idx) :
    val_main_v24 (F := Ideal) dy sg j = tot (mx dy sg) := by
  unfold val_main_v24
  rw [Host.reduce_eq_fold, Finset.filter_true_of_mem (fun i _ => funext fun a => a.elim0)]
  refine (fold_sup _ _).trans ?_
  exact sup_eq_tot _ _ (mag_le dy sg) (mx_le dy sg)

theorem v28_apply (dy : Vec Ideal S1536x3456 .bf16) (sg : Vec Ideal S16 .f32) (j : S1.Idx) :
    val_main_v28 (F := Ideal) dy sg j = stA (mx dy sg) := by
  unfold val_main_v28
  rw [shapeCast_apply (k := fun a => a.elim0) (hk := by
    have h1 : (S_.rowMajor (fun a => a.elim0)).val < 1 := (S_.rowMajor (fun a => a.elim0)).isLt
    have h2 : (S1.rowMajor j).val < 1 := (S1.rowMajor j).isLt
    exact (Nat.lt_one_iff.mp h1).trans (Nat.lt_one_iff.mp h2).symm), val_main_v27_apply, val_main_v25_apply, val_main_v26_apply, val_main_call0_v0_apply, val_main_cst_5_apply, v24_apply, val_main_cst_3_apply, val_main_cst_4_apply]
  unfold stA
  have e : FloatOps.hostDivf (F := Ideal) (φ := .f32) (tot (mx dy sg)) (FloatOps.ofBits .f32 0x45280000#32) = tot (mx dy sg) * ((1 / 2688 : ℝ) : EReal) := by
    show Ideal.div (tot (mx dy sg)) (Ideal.ofBits .f32 0x45280000#32) = _
    rw [ofBits_div, Ideal.div_coe (by norm_num)]
  rw [e]

theorem v38_apply (dy : Vec Ideal S1536x3456 .bf16) (sg : Vec Ideal S16 .f32) (g : Fin 96) (n : Fin 3456) :
    val_main_v38 (F := Ideal) dy sg (ix2 g n) = sbA (mx dy sg) g n := by
  rw [val_main_v38_apply, val_main_v37_apply, val_main_v35_apply, val_main_v36_apply, val_main_v34_apply, val_main_v33_apply, val_main_v32_apply, val_main_v31_apply, v30_apply, v28_apply]
  rfl

theorem v43_apply (x : Vec Ideal S1536x5120 .bf16) (xs : Vec Ideal S1 .f32) (dy dyh : Vec Ideal S1536x3456 .bf16) (sg : Vec Ideal S16 .f32) (n : Fin 3456) (k : Fin 5120) :
    val_main_v43 (F := Ideal) x xs dy dyh sg (ix2 n k) = (∑ t : Fin 1536, dyh (ix2 t n) * x (ix2 t k)) * (stA (mx dy sg) * xs (ix1 0)) := by
  rw [val_main_v43_apply, val_main_v39_apply, val_main_v42_apply, val_main_v41_apply, val_main_v40_apply, v28_apply]
  refine congrArg₂ (· * ·) (Finset.sum_congr rfl fun t _ => congrArg₂ (· * ·) (congrArg dyh ?_) (congrArg x ?_)) (congrArg (stA (mx dy sg) * ·) (congrArg xs ?_))
  · funext a; match a with
    | ⟨0, _⟩ => rfl
    | ⟨1, _⟩ => rfl
  · funext a; match a with
    | ⟨0, _⟩ => rfl
    | ⟨1, _⟩ => rfl
  · funext a; match a with
    | ⟨0, _⟩ => rfl

end Cert.Proof.RI
end
-- ==== Proof.lean ====
module

public import proofs.«01_k».proof.Defs
public import proofs.«01_k».proof.Proof.RunK
public import proofs.«01_k».proof.Proof.Value
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

noncomputable section

-- The claims about Kernel, KernelIdeal, ReferenceIdeal also say that every semaphore counter ends at zero; the proof shows that too.

namespace Cert.Proof

open Idealize.ShloMosaic Idealize.SL.Sem Cert.Kernel

/-- The reference's run: it is a straight line of host operations and touches no semaphore. -/
theorem frame_RI (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) := by
  refine (θ_run Cert.ReferenceIdeal.defs _ _).mono (fun r h => ⟨fun c => (h c).2.2.2, ?_⟩) (Cert.ReferenceIdeal.Value.run m g)
  funext s
  obtain ⟨_, ⟨i, hi⟩ | ⟨i, hi⟩⟩ := s
  · exact absurd hi (Nat.not_lt_zero _)
  · exact absurd hi (Nat.not_lt_zero _)

theorem algebraic : Cert.algebraic_KernelIdeal_ReferenceIdeal (hKernelIdeal := Cert.KernelIdeal.Gen.facts) (hReferenceIdeal := Cert.ReferenceIdeal.Gen.facts) := by
  intro m g m' g' _ hagree
  refine ⟨fun c => KI.dw m c, fun c => KI.sb m c, fun c => KI.ts m c, KI.run m g, ?_⟩
  refine (θ_run Cert.ReferenceIdeal.defs _ _).mono (fun r h c => ?_) (Cert.ReferenceIdeal.Value.run m' g')
  obtain ⟨h0, h1, h2, h3, h4, h5, h6, h7⟩ := h c
  obtain ⟨a0, a1, a2, a3, a4⟩ := hagree c
  refine ⟨h0.trans ?_, h1.trans ?_, h2.trans ?_, h3, h4, h5, h6, h7⟩
  · rw [a0, a1, a2, a3, a4, Cert.ReferenceIdeal.Read.val_main_v43_eq]
    funext i
    rw [ValueIdx.eq_ix2 i]
    exact RI.v43_apply _ _ _ _ _ (i 0) (i 1)
  · rw [a2, a4, Cert.ReferenceIdeal.Read.val_main_v38_eq]
    funext i
    rw [ValueIdx.eq_ix2 i]
    exact RI.v38_apply _ _ (i 0) (i 1)
  · rw [a2, a4]
    funext i
    exact RI.v28_apply _ _ i

theorem claim : Cert.Claim := ⟨Cert.Kernel.Gen.facts, Cert.KernelIdeal.Gen.facts, Cert.ReferenceIdeal.Gen.facts,
  fun m g _ => K.frame m g, fun m g _ => KI.frame m g, fun m g _ => frame_RI m g,
  IdealRules.named_const.statement Cert.KernelIdeal.κ "per_div" .f32 0x39C30C31#32 ((1 / 2688 : ℝ) : EReal) rfl, algebraic⟩

end Cert.Proof

end
